-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 256]⟩ ⟨2, ![2048, 256]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S2048x256 : Shape := ⟨2, ![2048, 256]⟩
abbrev S7 : Shape := ⟨1, ![7]⟩
abbrev S_ : Shape := ⟨0, ![]⟩
abbrev S1 : Shape := ⟨1, ![1]⟩

abbrev nBuf : Space → Nat
  | .hbm => 2
  | .vmem => 2
  | .smem => 0
  | _ => 0

abbrev bufTy : (tb : Table) → Fin (tcTables nBuf tb) → BufTy
  | .hbm, ⟨0, _⟩ => ⟨S256x256, .bf16⟩
  | .hbm, ⟨1, _⟩ => ⟨S2048x256, .bf16⟩
  | .local _ .vmem, ⟨0, _⟩ => ⟨S256x256, .bf16⟩
  | .local _ .vmem, ⟨1, _⟩ => ⟨S2048x256, .bf16⟩
  | _, _ => ⟨S256x256, .bf16⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  (ofTc nBuf bufTy 1 16 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32 : BitVec 32 := 256#32
  let v97 : BitVec 32 := Scalar.muli v2 c256_i32
  let v98 : Index := Scalar.indexCast v97
  let c0_65 : Index := 0#32
  ![v98.toNat, 0]
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_66 : BitVec 32 := 256#32
  let v100 : BitVec 32 := Scalar.muli v2 c256_i32_66
  let c0_i32_78 : BitVec 32 := 0#32
  ![v100.toNat, 0]
def k0_dev8 (d0 : Dev nD) : Nat :=
  let c0_i32_77 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_67 : BitVec 32 := 1#32
  let v101 : BitVec 32 := Scalar.addi v2 c1_i32_67
  let c8_i32_68 : BitVec 32 := 8#32
  let c0_i32_69 : BitVec 32 := 0#32
  let v102 : BitVec 1 := Scalar.cmpi .eq c8_i32_68 c0_i32_69
  let c1_i32_70 : BitVec 32 := 1#32
  let v103 : BitVec 32 := Scalar.select v102 c1_i32_70 c8_i32_68
  let v104 : BitVec 32 := Scalar.remsi v101 v103
  let c0_i32_72 : BitVec 32 := 0#32
  let v106 : BitVec 1 := Scalar.cmpi .slt v104 c0_i32_72
  let c0_i32_73 : BitVec 32 := 0#32
  let v107 : BitVec 1 := Scalar.cmpi .slt v103 c0_i32_73
  let v108 : BitVec 1 := Scalar.xori v106 v107
  let c0_i32_71 : BitVec 32 := 0#32
  let v105 : BitVec 1 := Scalar.cmpi .ne v104 c0_i32_71
  let v109 : BitVec 1 := Scalar.andi v108 v105
  let v110 : BitVec 32 := Scalar.addi v104 v103
  let v111 : BitVec 32 := Scalar.select v109 v110 v104
  let c1_i32_76 : BitVec 32 := 1#32
  let v112 : BitVec 32 := Scalar.muli v111 c1_i32_76
  let v113 : BitVec 32 := Scalar.addi c0_i32_77 v112
  v113.toNat
def k0_dev9 (d0 : Dev nD) : Nat :=
  let c0_i32_90 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_80 : BitVec 32 := 2#32
  let v120 : BitVec 32 := Scalar.addi v2 c2_i32_80
  let c8_i32_81 : BitVec 32 := 8#32
  let c0_i32_82 : BitVec 32 := 0#32
  let v121 : BitVec 1 := Scalar.cmpi .eq c8_i32_81 c0_i32_82
  let c1_i32_83 : BitVec 32 := 1#32
  let v122 : BitVec 32 := Scalar.select v121 c1_i32_83 c8_i32_81
  let v123 : BitVec 32 := Scalar.remsi v120 v122
  let c0_i32_85 : BitVec 32 := 0#32
  let v125 : BitVec 1 := Scalar.cmpi .slt v123 c0_i32_85
  let c0_i32_86 : BitVec 32 := 0#32
  let v126 : BitVec 1 := Scalar.cmpi .slt v122 c0_i32_86
  let v127 : BitVec 1 := Scalar.xori v125 v126
  let c0_i32_84 : BitVec 32 := 0#32
  let v124 : BitVec 1 := Scalar.cmpi .ne v123 c0_i32_84
  let v128 : BitVec 1 := Scalar.andi v127 v124
  let v129 : BitVec 32 := Scalar.addi v123 v122
  let v130 : BitVec 32 := Scalar.select v128 v129 v123
  let c1_i32_89 : BitVec 32 := 1#32
  let v131 : BitVec 32 := Scalar.muli v130 c1_i32_89
  let v132 : BitVec 32 := Scalar.addi c0_i32_90 v131
  v132.toNat
def k0_dev10 (d0 : Dev nD) : Nat :=
  let c0_i32_103 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_93 : BitVec 32 := 3#32
  let v139 : BitVec 32 := Scalar.addi v2 c3_i32_93
  let c8_i32_94 : BitVec 32 := 8#32
  let c0_i32_95 : BitVec 32 := 0#32
  let v140 : BitVec 1 := Scalar.cmpi .eq c8_i32_94 c0_i32_95
  let c1_i32_96 : BitVec 32 := 1#32
  let v141 : BitVec 32 := Scalar.select v140 c1_i32_96 c8_i32_94
  let v142 : BitVec 32 := Scalar.remsi v139 v141
  let c0_i32_98 : BitVec 32 := 0#32
  let v144 : BitVec 1 := Scalar.cmpi .slt v142 c0_i32_98
  let c0_i32_99 : BitVec 32 := 0#32
  let v145 : BitVec 1 := Scalar.cmpi .slt v141 c0_i32_99
  let v146 : BitVec 1 := Scalar.xori v144 v145
  let c0_i32_97 : BitVec 32 := 0#32
  let v143 : BitVec 1 := Scalar.cmpi .ne v142 c0_i32_97
  let v147 : BitVec 1 := Scalar.andi v146 v143
  let v148 : BitVec 32 := Scalar.addi v142 v141
  let v149 : BitVec 32 := Scalar.select v147 v148 v142
  let c1_i32_102 : BitVec 32 := 1#32
  let v150 : BitVec 32 := Scalar.muli v149 c1_i32_102
  let v151 : BitVec 32 := Scalar.addi c0_i32_103 v150
  v151.toNat
def k0_dev11 (d0 : Dev nD) : Nat :=
  let c0_i32_116 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_106 : BitVec 32 := 4#32
  let v158 : BitVec 32 := Scalar.addi v2 c4_i32_106
  let c8_i32_107 : BitVec 32 := 8#32
  let c0_i32_108 : BitVec 32 := 0#32
  let v159 : BitVec 1 := Scalar.cmpi .eq c8_i32_107 c0_i32_108
  let c1_i32_109 : BitVec 32 := 1#32
  let v160 : BitVec 32 := Scalar.select v159 c1_i32_109 c8_i32_107
  let v161 : BitVec 32 := Scalar.remsi v158 v160
  let c0_i32_111 : BitVec 32 := 0#32
  let v163 : BitVec 1 := Scalar.cmpi .slt v161 c0_i32_111
  let c0_i32_112 : BitVec 32 := 0#32
  let v164 : BitVec 1 := Scalar.cmpi .slt v160 c0_i32_112
  let v165 : BitVec 1 := Scalar.xori v163 v164
  let c0_i32_110 : BitVec 32 := 0#32
  let v162 : BitVec 1 := Scalar.cmpi .ne v161 c0_i32_110
  let v166 : BitVec 1 := Scalar.andi v165 v162
  let v167 : BitVec 32 := Scalar.addi v161 v160
  let v168 : BitVec 32 := Scalar.select v166 v167 v161
  let c1_i32_115 : BitVec 32 := 1#32
  let v169 : BitVec 32 := Scalar.muli v168 c1_i32_115
  let v170 : BitVec 32 := Scalar.addi c0_i32_116 v169
  v170.toNat
def k0_dev12 (d0 : Dev nD) : Nat :=
  let c0_i32_129 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_119 : BitVec 32 := 5#32
  let v177 : BitVec 32 := Scalar.addi v2 c5_i32_119
  let c8_i32_120 : BitVec 32 := 8#32
  let c0_i32_121 : BitVec 32 := 0#32
  let v178 : BitVec 1 := Scalar.cmpi .eq c8_i32_120 c0_i32_121
  let c1_i32_122 : BitVec 32 := 1#32
  let v179 : BitVec 32 := Scalar.select v178 c1_i32_122 c8_i32_120
  let v180 : BitVec 32 := Scalar.remsi v177 v179
  let c0_i32_124 : BitVec 32 := 0#32
  let v182 : BitVec 1 := Scalar.cmpi .slt v180 c0_i32_124
  let c0_i32_125 : BitVec 32 := 0#32
  let v183 : BitVec 1 := Scalar.cmpi .slt v179 c0_i32_125
  let v184 : BitVec 1 := Scalar.xori v182 v183
  let c0_i32_123 : BitVec 32 := 0#32
  let v181 : BitVec 1 := Scalar.cmpi .ne v180 c0_i32_123
  let v185 : BitVec 1 := Scalar.andi v184 v181
  let v186 : BitVec 32 := Scalar.addi v180 v179
  let v187 : BitVec 32 := Scalar.select v185 v186 v180
  let c1_i32_128 : BitVec 32 := 1#32
  let v188 : BitVec 32 := Scalar.muli v187 c1_i32_128
  let v189 : BitVec 32 := Scalar.addi c0_i32_129 v188
  v189.toNat
def k0_dev13 (d0 : Dev nD) : Nat :=
  let c0_i32_142 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_132 : BitVec 32 := 6#32
  let v196 : BitVec 32 := Scalar.addi v2 c6_i32_132
  let c8_i32_133 : BitVec 32 := 8#32
  let c0_i32_134 : BitVec 32 := 0#32
  let v197 : BitVec 1 := Scalar.cmpi .eq c8_i32_133 c0_i32_134
  let c1_i32_135 : BitVec 32 := 1#32
  let v198 : BitVec 32 := Scalar.select v197 c1_i32_135 c8_i32_133
  let v199 : BitVec 32 := Scalar.remsi v196 v198
  let c0_i32_137 : BitVec 32 := 0#32
  let v201 : BitVec 1 := Scalar.cmpi .slt v199 c0_i32_137
  let c0_i32_138 : BitVec 32 := 0#32
  let v202 : BitVec 1 := Scalar.cmpi .slt v198 c0_i32_138
  let v203 : BitVec 1 := Scalar.xori v201 v202
  let c0_i32_136 : BitVec 32 := 0#32
  let v200 : BitVec 1 := Scalar.cmpi .ne v199 c0_i32_136
  let v204 : BitVec 1 := Scalar.andi v203 v200
  let v205 : BitVec 32 := Scalar.addi v199 v198
  let v206 : BitVec 32 := Scalar.select v204 v205 v199
  let c1_i32_141 : BitVec 32 := 1#32
  let v207 : BitVec 32 := Scalar.muli v206 c1_i32_141
  let v208 : BitVec 32 := Scalar.addi c0_i32_142 v207
  v208.toNat
def k0_dev14 (d0 : Dev nD) : Nat :=
  let c0_i32_155 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_145 : BitVec 32 := 7#32
  let v215 : BitVec 32 := Scalar.addi v2 c7_i32_145
  let c8_i32_146 : BitVec 32 := 8#32
  let c0_i32_147 : BitVec 32 := 0#32
  let v216 : BitVec 1 := Scalar.cmpi .eq c8_i32_146 c0_i32_147
  let c1_i32_148 : BitVec 32 := 1#32
  let v217 : BitVec 32 := Scalar.select v216 c1_i32_148 c8_i32_146
  let v218 : BitVec 32 := Scalar.remsi v215 v217
  let c0_i32_150 : BitVec 32 := 0#32
  let v220 : BitVec 1 := Scalar.cmpi .slt v218 c0_i32_150
  let c0_i32_151 : BitVec 32 := 0#32
  let v221 : BitVec 1 := Scalar.cmpi .slt v217 c0_i32_151
  let v222 : BitVec 1 := Scalar.xori v220 v221
  let c0_i32_149 : BitVec 32 := 0#32
  let v219 : BitVec 1 := Scalar.cmpi .ne v218 c0_i32_149
  let v223 : BitVec 1 := Scalar.andi v222 v219
  let v224 : BitVec 32 := Scalar.addi v218 v217
  let v225 : BitVec 32 := Scalar.select v223 v224 v218
  let c1_i32_154 : BitVec 32 := 1#32
  let v226 : BitVec 32 := Scalar.muli v225 c1_i32_154
  let v227 : BitVec 32 := Scalar.addi c0_i32_155 v226
  v227.toNat
def k0_off3 (d0 : Dev nD) (c1_i32_158 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v234 : BitVec 32 := Scalar.subi v2 c1_i32_158
  let c8_i32_159 : BitVec 32 := 8#32
  let c0_i32_160 : BitVec 32 := 0#32
  let v235 : BitVec 1 := Scalar.cmpi .eq c8_i32_159 c0_i32_160
  let c1_i32_161 : BitVec 32 := 1#32
  let v236 : BitVec 32 := Scalar.select v235 c1_i32_161 c8_i32_159
  let v237 : BitVec 32 := Scalar.remsi v234 v236
  let c0_i32_163 : BitVec 32 := 0#32
  let v239 : BitVec 1 := Scalar.cmpi .slt v237 c0_i32_163
  let c0_i32_164 : BitVec 32 := 0#32
  let v240 : BitVec 1 := Scalar.cmpi .slt v236 c0_i32_164
  let v241 : BitVec 1 := Scalar.xori v239 v240
  let c0_i32_162 : BitVec 32 := 0#32
  let v238 : BitVec 1 := Scalar.cmpi .ne v237 c0_i32_162
  let v242 : BitVec 1 := Scalar.andi v241 v238
  let v243 : BitVec 32 := Scalar.addi v237 v236
  let v244 : BitVec 32 := Scalar.select v242 v243 v237
  let c256_i32_165 : BitVec 32 := 256#32
  let v245 : BitVec 32 := Scalar.muli v244 c256_i32_165
  let c0_i32_170 : BitVec 32 := 0#32
  ![v245.toNat, 0]
abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x256 : Shape := ⟨2, ![2048, 256]⟩

abbrev nBuf : Space → Nat
  | .hbm => 1
  | .vmem => 0
  | .smem => 0
  | _ => 0

abbrev bufTy : (tb : Table) → Fin (tcTables nBuf tb) → BufTy
  | .hbm, ⟨0, _⟩ => ⟨S2048x256, .bf16⟩
  | _, _ => ⟨S2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Around.lean ====
/-
The mesh of eight devices as every other device sees it, and the counting of seven steps: what the modules about
the two programs share and what mentions neither of them.
-/
module

public import Idealize.ShloMosaic.Lib.Pipeline.Launch
public import Idealize.ShloMosaic.Lib.Pipeline.Kit
public import Idealize.ShloMosaic.Lib.Transfers
public import Idealize.ShloMosaic.Lib.Ring
public import Idealize.ShloMosaic.Lib.Tactic

@[expose] public section

noncomputable section

namespace Cert.Around

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

/-! ## The seven others of a device -/

/-- The device `j + 1` places after `c`: the one that `c`'s signal `j` and copy `j` go to. -/
def nb (c : Fin 8) (j : Fin 7) : Fin 8 := ⟨(c.val + j.val + 1) % 8, Nat.mod_lt _ (Nat.succ_pos 7)⟩
/-- The device `j + 1` places before `c`: the one that signal `j` and copy `j` reach `c` from. -/
def pv (c : Fin 8) (j : Fin 7) : Fin 8 := ⟨(c.val + 7 - j.val) % 8, Nat.mod_lt _ (Nat.succ_pos 7)⟩

/-- Going `j + 1` places back and then forth is staying. -/
theorem nb_pv (c : Fin 8) (j : Fin 7) : nb (pv c j) j = c := by revert c j; decide
/-- Going `j + 1` places forth and then back is staying. -/
theorem pv_nb (c : Fin 8) (j : Fin 7) : pv (nb c j) j = c := by revert c j; decide
/-- Seen from the device it calls its `j`-th, a device is the one of the opposite number. -/
theorem nb_nb_rev (c : Fin 8) (j : Fin 7) : nb (nb c j) j.rev = c := by revert c j; decide

/-- All devices moved `j + 1` places forth. -/
def turn (j : Fin 7) : Fin 8 ≃ Fin 8 := ⟨fun c => nb c j, fun c => pv c j, fun c => pv_nb c j, fun c => nb_pv c j⟩

/-- Different steps lead to different devices, forth -/
theorem nb_inj (c : Fin 8) : Function.Injective (nb c) := fun j j' => by revert c j j'; decide
/-- and back. -/
theorem pv_inj (c : Fin 8) : Function.Injective (pv c) := fun j j' => by revert c j j'; decide

/-- The devices other than `c` are its seven followers, -/
theorem others_nb (c : Fin 8) : Finset.univ.erase c = Finset.univ.map ⟨nb c, nb_inj c⟩ := by revert c; decide
/-- and they are its seven forerunners. -/
theorem others_pv (c : Fin 8) : Finset.univ.erase c = Finset.univ.map ⟨pv c, pv_inj c⟩ := by revert c; decide

section Conj
variable {M : Type} [URA M]

/-- One assertion for each device: `c`'s, and one for each of its followers. -/
theorem all_nb (c : Fin 8) (Φ : Fin 8 → sProp M) :
    bigSep Finset.univ Φ = iprop(Φ c ∗ bigSep Finset.univ fun j => Φ (nb c j)) := by
  rw [bigSep_univ_at Φ c, others_nb, bigSep_map]; rfl
/-- One assertion for each device: `c`'s, and one for each of its forerunners. -/
theorem all_pv (c : Fin 8) (Φ : Fin 8 → sProp M) :
    bigSep Finset.univ Φ = iprop(Φ c ∗ bigSep Finset.univ fun j => Φ (pv c j)) := by
  rw [bigSep_univ_at Φ c, others_pv, bigSep_map]; rfl

/-- One assertion for each device and step, dealt anew: each goes to the device from which the step leads to its own. -/
theorem deal_nb (Φ : Fin 8 → Fin 7 → sProp M) :
    (bigSep Finset.univ fun c => bigSep Finset.univ fun j => Φ c j)
      = bigSep Finset.univ fun c => bigSep Finset.univ fun j => Φ (nb c j) j := by
  rw [bigSep_univ_comm, bigSep_univ_comm fun c j => Φ (nb c j) j]
  exact bigSep_congr fun j _ => bigSep_univ_equiv (turn j) fun c => Φ c j

/-- The same where the step is named by its opposite number. -/
theorem deal_rev (Φ : Fin 8 → Fin 7 → sProp M) :
    (bigSep Finset.univ fun c => bigSep Finset.univ fun j => Φ c j)
      = bigSep Finset.univ fun c => bigSep Finset.univ fun j => Φ (nb c j) j.rev := by
  rw [← deal_nb fun c j => Φ c j.rev]
  exact bigSep_congr fun c _ => bigSep_univ_equiv Fin.revPerm (Φ c)

end Conj

/-! ## Seven steps, one after another -/

/-- The steps from number `k` on: those still to do when `k` are done. -/
def rest (k : ℕ) : Finset (Fin 7) := Finset.univ.filter fun j => k ≤ j.val
/-- The steps before number `k`: those done. -/
def done (k : ℕ) : Finset (Fin 7) := Finset.univ.filter fun j => j.val < k

/-- At first every step is to do. -/
theorem rest_zero : rest 0 = Finset.univ := by decide
/-- After the seventh none is. -/
theorem rest_seven : rest 7 = ∅ := by decide
/-- At first no step is done. -/
theorem done_zero : done 0 = ∅ := by decide
/-- After the seventh every one is. -/
theorem done_seven : done 7 = Finset.univ := by decide
/-- What is to do before step `j` is step `j` and what is to do after it. -/
theorem rest_step (j : Fin 7) : rest j.val = insert j (rest (j.val + 1)) := by revert j; decide
/-- What is done after step `j` is step `j` and what was done before it. -/
theorem done_step (j : Fin 7) : done (j.val + 1) = insert j (done j.val) := by revert j; decide
/-- Step `j` is not to do after itself. -/
theorem not_mem_rest (j : Fin 7) : j ∉ rest (j.val + 1) := by revert j; decide
/-- Step `j` is not done before itself. -/
theorem not_mem_done (j : Fin 7) : j ∉ done j.val := by revert j; decide

section Steps
variable {M : Type} [URA M] (Φ : Fin 7 → sProp M)

/-- Step `j` taken out of what is still to do. -/
theorem rest_take (j : Fin 7) : bigSep (rest j.val) Φ = iprop(Φ j ∗ bigSep (rest (j.val + 1)) Φ) := by
  rw [rest_step, BI.bigSep_insert (not_mem_rest j)]; rfl
/-- Step `j` put to what is done. -/
theorem done_put (j : Fin 7) : bigSep (done (j.val + 1)) Φ = iprop(Φ j ∗ bigSep (done j.val) Φ) := by
  rw [done_step, BI.bigSep_insert (not_mem_done j)]; rfl
/-- After the seventh step nothing is to do. -/
theorem rest_none : bigSep (rest 7) Φ = iprop(emp) := by rw [rest_seven, bigSep_empty]; rfl
/-- Before the first step nothing is done. -/
theorem done_none : bigSep (done 0) Φ = iprop(emp) := by rw [done_zero, bigSep_empty]; rfl

/-- Step `j` is the last summand of what is still to do. -/
theorem sum_rest {A : Type} [AddCommMonoid A] (f : Fin 7 → A) (j : Fin 7) :
    ∑ i ∈ rest j.val, f i = (∑ i ∈ rest (j.val + 1), f i) + f j := by
  rw [rest_step, Finset.sum_insert (not_mem_rest j), add_comm]

end Steps

end Cert.Around

end
-- ==== Proof.KernelIdeal.Protocol.lean ====
/-
The agreement by which the eight devices' kernels gather their blocks, cell by cell, and what every landing holds.

`c` is a device, `j : Fin 7` a step, `nb c j` the device `j + 1` places after `c` and `pv c j` the one `j + 1` places
before it. A device holds the staging copy of its block of `x` and the staging buffer of the result, which is eight
blocks of rows, one for each device. In program order device `c`

* signals the barrier of every other device, `nb c j` at step `j`, handing over the rows of its own result buffer that
  the device signalled will fill;
* waits for seven units on its own barrier, and then holds its own rows of all seven other devices' buffers;
* writes its block of `x` into its own rows of its own buffer;
* copies those rows to the same rows of `nb c j`'s buffer at step `j`, crediting its own send cell `j` and the receive
  cell `j` of `nb c j`;
* waits on its receive cells, `j` bringing the rows of `pv c j`; and
* waits on its send cells, each bringing back the share of its own rows that the copy read.
-/
module

public import proofs.«01_k».proof.Proof.Around
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.KernelIdeal.Gather

open Cert.KernelIdeal Cert.KernelIdeal.Gen Cert.Around

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Resources: the pipeline's rounds and the gathering's, whose duties are the seven steps -/

/-- The gathering's rounds, whose duties are numbered by the seven steps, -/
abbrev UB : Type := URounds (GSem nD τ sig) (Fin 7)
/-- and beside them the pipeline's. -/
abbrev UU : Type := UR sig nD τ × UB

local notation "𝕄" => MT nD τ sig Unit (Elt F) ℕ UU ℕ

/-- Where the pipeline's rounds are, -/
abbrev EP : Emb (UR sig nD τ) (MT nD τ sig Unit (Elt F) ℕ UU ℕ) := embL
/-- and where the gathering's are. -/
abbrev ER : Emb UB (MT nD τ sig Unit (Elt F) ℕ UU ℕ) := embR

variable (m : (ℓ : Loc nD τ sig) → Buf (Elt F) ℓ) (ρ : Dev nD → PrngReg)

/-- The memory at launch: any contents, every counter at zero, any generator registers. -/
def s₀ : MemSt nD τ sig (Elt F) := ⟨m, fun _ => 0, ρ⟩

/-! ## The whole result and its blocks of rows -/

/-- The staging buffer of `x`, whole, -/
abbrev xM : Memref sig .tc .vmem S256x256 .bf16 := Memref.whole cc0_stg0_0
/-- and that of the result. -/
abbrev oM : Memref sig .tc .vmem S2048x256 .bf16 := Memref.whole cc0_stg1_0

/-- The rectangle of device `b`'s rows in a result buffer, -/
abbrev rowRect (b : Dev nD) : Rect S2048x256 := Rect.unit (s := S2048x256) (k0_off2 b) S256x256.size (k0_off2_inb b)
/-- the buffer's slice there, -/
abbrev rowM (b : Dev nD) : Memref sig .tc .vmem S256x256 .bf16 := oM.slice (rowRect b) (fun _ => rfl)
/-- and the set of its elements. -/
abbrev rowSet (b : Dev nD) : Finset (S2048x256 : Shape).Idx := (rowM b).view.set

/-- Device `b`'s rows are those numbered `256 * b` to `256 * b + 255`. -/
theorem mem_rowSet (b : Dev nD) (i : (S2048x256 : Shape).Idx) : i ∈ rowSet b ↔ (i 0).val / 256 = b.val := by
  show i ∈ ((View.whole cc0_stg1_0).slice (rowRect b)).set ↔ _
  rw [View.set_slice_whole, Rect.mem_set_unit, k0_off2_eq b]
  have h1 : (i 1).val < 256 := (i 1).isLt
  constructor
  · intro h
    have h0 := h 0
    change 256 * b.val ≤ (i 0).val ∧ (i 0).val < 256 * b.val + 256 at h0
    omega
  · intro h a
    fin_cases a
    · show 256 * b.val ≤ (i 0).val ∧ (i 0).val < 256 * b.val + 256; omega
    · show 0 ≤ (i 1).val ∧ (i 1).val < 0 + 256; omega

/-- No row is two devices'. -/
theorem rowSet_disjoint (b b' : Dev nD) (h : b ≠ b') : Disjoint (rowSet b) (rowSet b') :=
  Finset.disjoint_left.mpr fun i hi hi' => h (Fin.ext (((mem_rowSet b i).mp hi).symm.trans ((mem_rowSet b' i).mp hi')))

/-- The device whose row an element of the result is in. -/
def rowDev (i : (S2048x256 : Shape).Idx) : Dev nD :=
  ⟨(i 0).val / 256, Nat.div_lt_of_lt_mul (show (i 0).val < 256 * 8 from (i 0).isLt)⟩

/-- The staging copy of device `c`'s block of `x`. -/
def xstg (c : Dev nD) : (cc0_stg0_0 : Ref sig .tc).ty.Contents (Elt F) :=
  (win0_0.blk (0 : Fin 1)).view.read (Elt F) ((s₀ m ρ).mem ((c : Thread nD τ).loc main_arg0))

/-- The gathered array: on every device the same, row `i` being row `i % 256` of the block of device `i / 256`. -/
def gath : (cc0_stg1_0 : Ref sig .tc).ty.Contents (Elt F) := fun i : (S2048x256 : Shape).Idx =>
  (xstg m ρ (rowDev i) : (S256x256 : Shape).Idx → Elt F .bf16)
    (fun a => match a with
      | ⟨0, _⟩ => ⟨(i 0).val % 256, Nat.mod_lt _ (by decide)⟩
      | ⟨1, _⟩ => ⟨(i 1).val, (i 1).isLt⟩)

omit [FloatOps F] in
/-- Row `256 * b + k` of the gathered array is row `k` of device `b`'s block. -/
theorem gath_at (b : Dev nD) (i : (S2048x256 : Shape).Idx) (x : (S256x256 : Shape).Idx)
    (h0 : (i 0).val = 256 * b.val + (x 0).val) (h1 : (i 1).val = (x 1).val) : gath m ρ i = xstg m ρ b x := by
  have hx : (x 0).val < 256 := (x 0).isLt
  have hb : rowDev i = b := Fin.ext (by show (i 0).val / 256 = b.val; omega)
  subst hb
  show xstg m ρ (rowDev i) _ = xstg m ρ (rowDev i) x
  congr 1
  funext a
  apply Fin.ext
  fin_cases a
  · show (i 0).val % 256 = (x 0).val
    have : (rowDev i).val = (i 0).val / 256 := rfl
    omega
  · exact h1

omit [FloatOps F] in
/-- Read at the rows of device `b`, the gathered array is that device's block. -/
theorem read_gath (b : Dev nD) : (rowM b).view.read (Elt F) (gath m ρ) = xstg m ρ b := by
  funext x
  rw [View.read_apply]
  refine gath_at m ρ b _ x ?_ ?_
  · show k0_off2 b 0 + 1 * (x 0).val = _
    rw [k0_off2_eq b, Nat.one_mul]; rfl
  · show k0_off2 b 1 + 1 * (x 1).val = _
    rw [k0_off2_eq b, Nat.one_mul]; exact Nat.zero_add _

/-! ## Cells -/

/-- A device's cells: its barrier, its seven send cells, its seven receive cells. -/
abbrev Kind : Type := Unit ⊕ Fin 7 ⊕ Fin 7

/-- The barrier's semaphore, -/
abbrev barSem : Sem sig := (SemArray.scalar (sig.barrier 0 rfl) : Sems sig S_).sem
/-- the one of send cell `j`, -/
abbrev sendSem (j : Fin 7) : DmaSem sig := ⟨2 + j.val, Nat.lt_of_lt_of_le (Nat.add_lt_add_left j.isLt 2) (by decide)⟩
/-- and the one of receive cell `j`. -/
abbrev recvSem (j : Fin 7) : DmaSem sig := ⟨9 + j.val, Nat.lt_of_lt_of_le (Nat.add_lt_add_left j.isLt 9) (by decide)⟩

/-- A cell's semaphore, -/
def semOf : Kind → SemLoc sig
  | .inl _ => .reg barSem
  | .inr (.inl j) => .dma (sendSem j)
  | .inr (.inr j) => .dma (recvSem j)
/-- and the cell that a semaphore is of, if it is of any. -/
def kindOf : SemLoc sig → Option Kind
  | .reg _ => some (.inl ())
  | .dma q => if q.val < 2 then none else if q.val < 9 then some (.inr (.inl (Fin.ofNat 7 (q.val - 2)))) else some (.inr (.inr (Fin.ofNat 7 (q.val - 9))))

/-- A cell's semaphore is of that cell. -/
theorem kindOf_semOf (k : Kind) : kindOf (semOf k) = some k := by revert k; decide
/-- Different kinds of cell have different semaphores. -/
theorem semOf_inj : Function.Injective semOf := fun k k' h => Option.some.inj (by rw [← kindOf_semOf k, h, kindOf_semOf k'])

/-- Cell `k` of device `c`. -/
abbrev cell (c : Dev nD) (k : Kind) : GSem nD τ sig := ((c : Thread nD τ), semOf k)
/-- Its barrier, its send cell `j` and its receive cell `j`. -/
abbrev bar (c : Dev nD) : GSem nD τ sig := cell c (.inl ())
abbrev snd (c : Dev nD) (j : Fin 7) : GSem nD τ sig := cell c (.inr (.inl j))
abbrev rcv (c : Dev nD) (j : Fin 7) : GSem nD τ sig := cell c (.inr (.inr j))

/-- No cell is two. -/
theorem cell_inj : Function.Injective fun ck : Dev nD × Kind => cell ck.1 ck.2 := fun a b h =>
  Prod.ext (congrArg (fun g : GSem nD τ sig => g.1.1) h) (semOf_inj (congrArg Prod.snd h))

/-- What a copy of one device's rows credits. -/
abbrev N : ℕ := (rowM 0).view.dmaCredit
/-- A copy credits something. -/
theorem N_pos : 0 < N := View.dmaCredit_pos _ (by decide)

/-! ## The schedule -/

/-- Device `b`'s rows of device `d`'s result buffer, held at share `q` with contents `f`. -/
def rows (d b : Dev nD) (q : PosShare TreeShare) (f : (cc0_stg1_0 : Ref sig .tc).ty.Contents (Elt F)) : sProp 𝕄 :=
  (rowM b).view.loc (d : Thread nD τ) ↦[(rowM b).view.set]{q} f

omit [FloatOps F] in
/-- Rows may be kept in an agreement; -/
instance rows_storable (d b : Dev nD) (q : PosShare TreeShare) (f) : BI.Storable (upEmb : UEmb _ 𝕄) (rows (F := F) d b q f) := by
  unfold rows; infer_instance

/-- The share of its own rows that a device's copy `j` reads. -/
abbrev part (j : Fin 7) : PosShare TreeShare := Transfers.dealOf fullShare Finset.univ j

/-- What a duty hands to the device `c` whose cell it is of: a barrier's, `c`'s rows in the buffer of the device which
    signals; a send cell's, the share of its own rows that its copy read; a receive cell's, the rows of the device
    which copied, as gathered. -/
def pay (c : Dev nD) : Kind → Fin 7 → sProp 𝕄
  | .inl _, k => iprop(∃ f, rows (nb c k) c fullShare f)
  | .inr (.inl j), _ => rows c c (part j) (gath m ρ)
  | .inr (.inr j), _ => rows c (pv c j) fullShare (gath m ρ)

omit [FloatOps F] in
/-- The device that a barrier's signal comes from hands over its rows; -/
theorem pay_bar (c : Dev nD) (j : Fin 7) : pay (F := F) m ρ (nb c j) (.inl ()) j.rev = iprop(∃ f, rows c (nb c j) fullShare f) := by
  show iprop(∃ f, rows (nb (nb c j) j.rev) (nb c j) fullShare f) = _
  rw [nb_nb_rev]
omit [FloatOps F] in
/-- the device that a copy comes from is the one whose rows it brings. -/
theorem pay_rcv (c : Dev nD) (j : Fin 7) : pay (F := F) m ρ (nb c j) (.inr (.inr j)) 0 = rows (nb c j) c fullShare (gath m ρ) := by
  show rows (nb c j) (pv (nb c j) j) fullShare (gath m ρ) = _
  rw [pv_nb]

omit [FloatOps F] in
/-- so may what a duty hands over, -/
instance pay_storable (c : Dev nD) (k : Kind) (d : Fin 7) : BI.Storable (upEmb : UEmb _ 𝕄) (pay m ρ c k d) := by
  rcases k with _ | j | j <;> unfold pay <;> infer_instance

/-- A cell's duties: a barrier has one for each other device, a send or receive cell the one of its copy. -/
def dutiesOf : Kind → Finset (Fin 7)
  | .inl _ => Finset.univ
  | .inr _ => {0}
/-- How much a duty is worth. -/
def worth : Kind → ℕ
  | .inl _ => 1
  | .inr _ => N

/-- One round for each cell. -/
def Rd : Rounds.Schedule (GSem nD τ sig) (Fin 7) 𝕄 where
  duties g r := if r = 0 ∧ g.1.2 = .tc then (kindOf g.2).elim ∅ dutiesOf else ∅
  unitless _ := False
  amount g _ _ := (kindOf g.2).elim 1 worth
  payload g _ d := (kindOf g.2).elim iprop(emp) fun k => pay m ρ g.1.1 k d
  amount_pos g _ _ _ := by
    rcases kindOf g.2 with _ | _ | _
    · exact Nat.one_pos
    · exact Nat.one_pos
    · exact N_pos

/-- in the schedule too. -/
instance Rd_storable (g : GSem nD τ sig) (r : ℕ) (d : Fin 7) : BI.Storable (upEmb : UEmb _ 𝕄) ((Rd (F := F) m ρ).payload g r d) := by
  show BI.Storable upEmb ((kindOf g.2).elim iprop(emp) fun k => pay m ρ g.1.1 k d)
  rcases kindOf g.2 with _ | k
  · show BI.Storable upEmb iprop(emp); infer_instance
  · show BI.Storable upEmb (pay m ρ g.1.1 k d); infer_instance

section Table
variable (c : Dev nD) (k : Kind) (d : Fin 7)

omit [FloatOps F] in
/-- The schedule's duties, by cell; -/
theorem duties_cell : (Rd (F := F) m ρ).duties (cell c k) 0 = dutiesOf k := by
  dsimp only [Rd]
  rw [if_pos ⟨rfl, rfl⟩, kindOf_semOf]; rfl
omit [FloatOps F] in
/-- membership in them; -/
theorem mem_duties (h : d ∈ dutiesOf k) : d ∈ (Rd (F := F) m ρ).duties (cell c k) 0 := by rwa [duties_cell]
omit [FloatOps F] in
/-- no cell has duties after its one round; -/
theorem duties_later (g : GSem nD τ sig) (r : ℕ) (hr : 1 ≤ r) : (Rd (F := F) m ρ).duties g r = ∅ :=
  if_neg fun h => by omega
omit [FloatOps F] in
/-- what a duty is worth, -/
theorem amount_cell : (Rd (F := F) m ρ).amount (cell c k) 0 d = worth k := by
  show (kindOf (semOf k)).elim 1 worth = _
  rw [kindOf_semOf]; rfl
omit [FloatOps F] in
/-- what it hands over, -/
theorem payload_cell : (Rd (F := F) m ρ).payload (cell c k) 0 d = pay m ρ c k d := by
  show (kindOf (semOf k)).elim iprop(emp) (fun k => pay m ρ c k d) = _
  rw [kindOf_semOf]; rfl
omit [FloatOps F] in
/-- and what a round amounts to. -/
theorem expect_cell : (Rd (F := F) m ρ).expect (cell c k) 0 = (dutiesOf k).card * worth k := by
  unfold Schedule.expect Schedule.amountOf
  rw [duties_cell, Finset.sum_congr rfl fun d _ => amount_cell m ρ c k d, Finset.sum_const, smul_eq_mul]
omit [FloatOps F] in
/-- All that a cell's round hands over. -/
theorem payloads_cell : bigSep ((Rd (F := F) m ρ).duties (cell c k) 0 \ ∅) (fun d => (Rd (F := F) m ρ).payload (cell c k) 0 d)
    = bigSep (dutiesOf k) fun d => pay m ρ c k d := by
  rw [Finset.sdiff_empty, duties_cell]
  exact bigSep_congr fun d _ => payload_cell m ρ c k d

end Table

/-! ## Debts and levels -/

/-- What device `c` owes once it has sent `k` of its seven copies: each other device's receive cell, -/
def owesC (c : Dev nD) (k : ℕ) : CellTallies nD τ sig Unit := ∑ j ∈ rest k, tallyAt (rcv (nb c j) j) () N
/-- and what it owes once it has given `k` of its seven signals: the copies, and each other device's barrier. -/
def owesS (c : Dev nD) (k : ℕ) : CellTallies nD τ sig Unit := owesC c 0 + ∑ j ∈ rest k, tallyAt (bar (nb c j)) () 1
/-- What it owes at launch. -/
abbrev O₀ (c : Dev nD) : CellTallies nD τ sig Unit := owesS c 0

/-- Signal `j` pays one unit. -/
theorem owesS_step (c : Dev nD) (j : Fin 7) : owesS c j.val = owesS c (j.val + 1) + tallyAt (bar (nb c j)) () 1 := by
  unfold owesS; rw [sum_rest _ j, add_assoc]
/-- Copy `j` pays its credit. -/
theorem owesC_step (c : Dev nD) (j : Fin 7) : owesC c j.val = owesC c (j.val + 1) + tallyAt (rcv (nb c j) j) () N := by
  unfold owesC; rw [sum_rest _ j]
/-- After the signals the copies are owed, -/
theorem owesS_end (c : Dev nD) : owesS c 7 = owesC c 0 := by unfold owesS; rw [rest_seven, Finset.sum_empty, add_zero]
/-- and after the copies nothing. -/
theorem owesC_end (c : Dev nD) : owesC c 7 = 0 := by unfold owesC; rw [rest_seven, Finset.sum_empty]

/-- The cells that have levels: those of the devices themselves. -/
def L (g : GSem nD τ sig) : Finset Unit := if g.1.2 = .tc then {()} else ∅
/-- A barrier is waited on owing copies, every other cell owing nothing that could wait for it. -/
def level : Option Kind → ℕ
  | some (.inl _) => 1
  | some (.inr (.inr _)) => 2
  | _ => 0
/-- A cell's level. -/
def lv (g : GSem nD τ sig) (_ : Unit) : ℕ := level (kindOf g.2)

/-- No other core has levels; -/
theorem L_of_ne (g : GSem nD τ sig) (h : g.1.2 ≠ .tc) : L g = ∅ := if_neg h
/-- a device's cells do. -/
theorem L_tc (c : Dev nD) (sm : SemLoc sig) : L ((c : Thread nD τ), sm) = {()} := if_pos rfl

/-- A debt of copies is a debt to a receive cell; -/
theorem owesC_pos {c : Dev nD} {k : ℕ} {g : GSem nD τ sig} {u : Unit} (h : 0 < owesC c k g u) : ∃ d j, g = rcv d j := by
  unfold owesC at h
  rw [Finset.sum_apply, Finsupp.finsetSum_apply] at h
  obtain ⟨j, -, hj⟩ := Finset.exists_ne_zero_of_sum_ne_zero (Nat.pos_iff_ne_zero.mp h)
  by_contra hn
  rw [tallyAt_apply, if_neg fun e => hn ⟨_, _, e.1⟩] at hj
  exact hj rfl
/-- a debt at launch is one to a receive cell or to a barrier. -/
theorem owesS_pos {c : Dev nD} {k : ℕ} {g : GSem nD τ sig} {u : Unit} (h : 0 < owesS c k g u) : (∃ d j, g = rcv d j) ∨ ∃ d, g = bar d := by
  unfold owesS at h
  rw [Pi.add_apply, Finsupp.add_apply] at h
  rcases Nat.add_pos_iff_pos_or_pos.mp h with h | h
  · exact .inl (owesC_pos h)
  · rw [Finset.sum_apply, Finsupp.finsetSum_apply] at h
    obtain ⟨j, -, hj⟩ := Finset.exists_ne_zero_of_sum_ne_zero (Nat.pos_iff_ne_zero.mp h)
    by_contra hn
    rw [tallyAt_apply, if_neg fun e => hn (.inr ⟨_, e.1⟩)] at hj
    exact hj rfl

/-- The level of a cell, by its kind. -/
theorem lv_cell (c : Dev nD) (k : Kind) (u : Unit) : lv (cell c k) u = level (some k) := by
  show level (kindOf (semOf k)) = _; rw [kindOf_semOf]

omit [FloatOps F] in
/-- A device may wait on a semaphore whose level is below all that it owes. -/
theorem mayWait_below (c : Dev nD) (sm : SemLoc sig) (l : ℕ) (hl : lv ((c : Thread nD τ), sm) () = l) (O : CellTallies nD τ sig Unit)
    (hO : ∀ g u, 0 < O g u → ∃ d k, g = cell d k ∧ l < level (some k)) : (levAts L lv : sProp 𝕄) ⊢ MayWait (c : Thread nD τ) sm () O :=
  MayOwe.of_cut (L := L) (lev := lv) l (fun p hp => by rw [Finset.mem_singleton.mp hp, L_tc]; exact Finset.mem_singleton_self _)
    (fun g u hg => by obtain ⟨d, k, rfl, -⟩ := hO g u hg; rw [L_tc]; exact Finset.mem_singleton_self _)
    (fun p hp => by rw [Finset.mem_singleton.mp hp]; exact le_of_eq hl)
    (fun g u hg => by obtain ⟨d, k, rfl, h⟩ := hO g u hg; rw [lv_cell]; exact h)

omit [FloatOps F] in
/-- A device may wait on its barrier owing its copies. -/
theorem mayWait_bar (c : Dev nD) : (levAts L lv : sProp 𝕄) ⊢ MayWait (c : Thread nD τ) (.reg barSem) () (owesC c 0) :=
  mayWait_below c _ 1 (lv_cell c (.inl ()) ()) _ fun g u hg => by
    obtain ⟨d, j, rfl⟩ := owesC_pos hg; exact ⟨d, .inr (.inr j), rfl, Nat.one_lt_two⟩

omit [FloatOps F] in
/-- A device may wait on its windows' semaphores owing all that it owes at launch, or nothing. -/
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · refine mayWait_below c _ 0 (by show level (if _ then _ else _) = 0; rw [if_pos hq]; rfl) _ fun g u hg => ?_
    rcases owesS_pos hg with ⟨d, j, rfl⟩ | ⟨d, rfl⟩
    · exact ⟨d, .inr (.inr j), rfl, Nat.two_pos⟩
    · exact ⟨d, .inl (), rfl, Nat.one_pos⟩
  · rw [MayWait_zero]; iintro -; iempintro

end Cert.KernelIdeal.Gather

end
-- ==== Proof.KernelIdeal.Steps.lean ====
/-
The kernel's operations, one lemma for each kind: what a device holds before step `j` of its seven signals, copies or
waits, and that the step leads to what it holds before step `j + 1`.
-/
module

public import proofs.«01_k».proof.Proof.KernelIdeal.Protocol

@[expose] public section

noncomputable section

namespace Cert.KernelIdeal.Gather

open Cert.KernelIdeal Cert.KernelIdeal.Gen Cert.Around

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- No variants. -/
abbrev 𝒱₀ : Variants := Variants.none

/-! ## What all devices know -/

/-- Every cell's invariant, under the names `K`, and that every cell has reached its round. -/
def records (K : Dev nD × Kind → ℕ) : sProp 𝕄 :=
  iprop((bigSep Finset.univ fun ck : Dev nD × Kind => cellInv ER (Rd m ρ) (K ck) (cell ck.1 ck.2))
    ∗ bigSep Finset.univ fun ck : Dev nD × Kind => reached ER (cell ck.1 ck.2) 0)

/-- What all devices know stays known. -/
instance records_persistent (K : Dev nD × Kind → ℕ) : BI.Persistent (records m ρ K) := by unfold records; infer_instance

omit [FloatOps F] in
/-- One cell's invariant, and that it has reached its round. -/
theorem records_at (K : Dev nD × Kind → ℕ) (c : Dev nD) (k : Kind) :
    records m ρ K ⊢ iprop(cellInv ER (Rd m ρ) (K (c, k)) (cell c k) ∗ reached ER (cell c k) 0) := by
  unfold records
  exact BIClass.sep_mono (bigSep_elim (Finset.mem_univ (c, k))) (bigSep_elim (Finset.mem_univ (c, k)))

/-- That device `c` owes `O`, having waited on whatever it has. -/
def debt (c : Dev nD) (O : CellTallies nD τ sig Unit) : sProp 𝕄 := iprop(∃ W, owes (c : Thread nD τ) O W)

section Device
variable (K : Dev nD × Kind → ℕ) (c : Dev nD)
variable {α : Type} {Q : α → sProp (MT nD τ sig Unit (Elt F) ℕ UU ℕ)} {k : PUnit → Prog (TpuEff nD τ sig (Elt F) Λ₀ .tc) α}

/-! ## Signals -/

/-- Before signal `j`: the debt, and for each signal to come its duty's token and the rows it hands over. -/
def toSignal (j : ℕ) : sProp 𝕄 :=
  iprop(debt c (owesS c j) ∗ bigSep (rest j) fun i => iprop(dutyTok ER (bar (nb c i)) 0 i.rev ∗ ∃ f, rows c (nb c i) fullShare f))

/-- Signal `j`, to the barrier of the device `j + 1` places on. -/
theorem signal_step (j : Fin 7) {n : Dev nD} (hn : n = nb c j) {a : ℕ} (ha : a = 1) :
    iprop(records m ρ K ∗ toSignal (F := F) c j.val)
      ⊢ iprop((toSignal (F := F) c (j.val + 1) -∗ wp frame (wpE (defs₀ (F := F)) 𝒱₀ (c : Thread nD τ) none) Set.univ (k ⟨⟩) Q) -∗ wp frame (wpE (defs₀ (F := F)) 𝒱₀ (c : Thread nD τ) none) Set.univ (.op (.semSignal (n : Thread nD τ) barSem a) k) Q) := by
  subst hn ha
  unfold toSignal debt
  rw [rest_take]
  iintro ⟨#HR, ⟨%W, HO⟩, ⟨Ht, Hf⟩, Hrest⟩ Hk
  ihave Hi := (records_at m ρ K (nb c j) (.inl ())) $$ HR
  icases Hi with ⟨#HI, #Hr⟩
  have hp : (Rd (F := F) m ρ).payload ((nb c j : Thread nD τ), SemLoc.reg barSem) 0 j.rev = iprop(∃ f, rows c (nb c j) fullShare f) :=
    (payload_cell m ρ (nb c j) (.inl ()) j.rev).trans (pay_bar m ρ c j)
  iapply (Rounds.wp_signal 𝒱₀ ER (Rd m ρ) (c : Thread nD τ) none (dst := (nb c j : Thread nD τ)) (κ := K (nb c j, .inl ()))
      (d := j.rev) (mem_duties m ρ (nb c j) (.inl ()) j.rev (Finset.mem_univ _)) (amount_cell m ρ (nb c j) (.inl ()) j.rev) () (owesS c (j.val + 1)) (owesS_step c j))
    $$ [HO Ht Hf]
  · isplitr; · iexact HI
    isplitl [HO]; · iexact HO
    isplitl [Ht]; · iexact Ht
    isplitl [Hf]
    · rw [hp]; iexact Hf
    iexact Hr
  iintro HO
  iapply Hk
  isplitl [HO]
  · iexists W; iexact HO
  iexact Hrest

/-! ## The barrier -/

/-- The rows that the other devices have handed over: device `c`'s own, in each other's buffer. -/
def given : sProp 𝕄 := bigSep Finset.univ fun j => iprop(∃ f, rows (nb c j) c fullShare f)

/-- The wait for all seven signals. -/
theorem barrier_step {a : ℕ} (ha : a = 7) :
    iprop(records m ρ K ∗ levAts L lv ∗ cred (tallyAt (bar c) () 7) ∗ atPos ER (bar c) 0 ∅ 0 ∗ debt c (owesC c 0))
      ⊢ iprop(((debt c (owesC c 0) ∗ semVal (bar c) 0 ∗ given (F := F) c) -∗ wp frame (wpE (defs₀ (F := F)) 𝒱₀ (c : Thread nD τ) none) Set.univ (k ⟨⟩) Q)
          -∗ wp frame (wpE (defs₀ (F := F)) 𝒱₀ (c : Thread nD τ) none) Set.univ (.op (.semWait barSem a) k) Q) := by
  subst ha
  unfold debt
  iintro ⟨#HR, #HL, Hc, Ha, ⟨%W, HO⟩⟩ Hk
  ihave Hi := (records_at m ρ K c (.inl ())) $$ HR
  icases Hi with ⟨#HI, -⟩
  iapply (Rounds.wp_wait_rest_token 𝒱₀ ER (Rd m ρ) (c : Thread nD τ) none (κ := K (c, .inl ()))
      (wpE_semWait_eq 𝒱₀ (c : Thread nD τ) none Set.univ) (Set.mem_univ _) () (O := owesC c 0) (W := W) (R := 0) (m := 0) (T := ∅)
      (expect_cell m ρ c (.inl ())).symm) $$ [Hc HO Ha]
  · isplitr; · iexact HI
    isplitl [Hc]; · iexact Hc
    isplitl [HO]; · iexact HO
    isplitr; · iapply (mayWait_bar c); iexact HL
    iexact Ha
  iintro ⟨HO, Ha, -, Hp⟩
  imod (Rounds.cell_close ER (Rd m ρ) (Set.mem_univ (K (c, .inl ()))) (fun h => h) (R := 0 + 1) (duties_later m ρ (bar c))) $$ [Ha] with Hz
  · isplitr; · iexact HI
    iexact Ha
  iapply Hk
  isplitl [HO]
  · iexists _; iexact HO
  isplitl [Hz]; · iexact Hz
  unfold given
  iapply (Entails.of_eq (payloads_cell m ρ c (.inl ())))
  iexact Hp

/-! ## Copies -/

omit [FloatOps F] in
/-- The rows of the gathered array copied over anything are those rows of the gathered array. -/
theorem landing (d : Dev nD) (f : (cc0_stg1_0 : Ref sig .tc).ty.Contents (Elt F)) :
    ((rowM c).view.loc (d : Thread nD τ) ↦[(rowM c).view.set]{fullShare}
        ((rowM c).view.write (Elt F) f ((rowM c).view.read (Elt F) (gath m ρ)) Finset.univ))
      = rows (F := F) d c fullShare (gath m ρ) := by
  unfold rows
  refine pointsTo_congr fun i hi => ?_
  rw [View.write_read_eq_piecewise, View.setOn_univ]
  exact Finset.piecewise_eq_of_mem _ _ _ hi

/-- Before copy `j`: the debt; for each copy to come its two duties' tokens, the share of the own rows it reads and the
    rows it fills; for each copy sent the credit of its send cell. -/
def toCopy (j : ℕ) : sProp 𝕄 :=
  iprop(debt c (owesC c j)
    ∗ (bigSep (rest j) fun i => iprop(dutyTok ER (snd c i) 0 0 ∗ dutyTok ER (rcv (nb c i) i) 0 0 ∗ rows c c (part i) (gath m ρ) ∗ ∃ f, rows (nb c i) c fullShare f))
    ∗ bigSep (done j) fun i => cred (tallyAt (snd c i) () N))

/-- Copy `j`, to the device `j + 1` places on. -/
theorem copy_step (j : Fin 7) {n : Dev nD} (hn : n = nb c j)
    {hsc : (rowM c : Memref sig (Dev.tc n : Thread nD τ).2.kind .vmem S256x256 .bf16).view.ref.isScScratch = false}
    {hsrc : (rowM c).view.WordExact} {hdst : (rowM c : Memref sig (Dev.tc n : Thread nD τ).2.kind .vmem S256x256 .bf16).view.WordExact}
    {hsem : DmaTarget.Typed .vmem (.dma (recvSem j)) (.remote (Dev.tc n : Thread nD τ) (rowM c : Memref sig .tc .vmem S256x256 .bf16) (.dma (sendSem j)) hsc)} :
    iprop(records m ρ K ∗ toCopy m ρ c j.val)
      ⊢ iprop((toCopy m ρ c (j.val + 1) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (rowM c) (.remote (Dev.tc n : Thread nD τ) (rowM c) (.dma (sendSem j)) hsc) (.dma (recvSem j)) hsrc hdst hsem) k) Q) := by
  subst hn
  unfold toCopy debt
  rw [rest_take, done_put]
  iintro ⟨#HR, ⟨%W, HO⟩, ⟨⟨HtS, HtR, Hsrc, ⟨%f, Hdst⟩⟩, Hrest⟩, Hdone⟩ Hk
  ihave Hi := (records_at m ρ K c (.inr (.inl j))) $$ HR
  icases Hi with ⟨#HIS, #HrS⟩
  ihave Hi := (records_at m ρ K (nb c j) (.inr (.inr j))) $$ HR
  icases Hi with ⟨#HIR, #HrR⟩
  have hs : ((rowM c).view.loc (c : Thread nD τ) ↦[(rowM c).view.set]{part j} gath m ρ)
      ⊢ (Rd (F := F) m ρ).payload ((c : Thread nD τ), .dma (sendSem j)) 0 0 :=
    Entails.of_eq (payload_cell m ρ c (.inr (.inl j)) 0).symm
  have hp : ((rowM c).view.loc (nb c j : Thread nD τ) ↦[(rowM c).view.set]{fullShare}
        ((rowM c).view.write (Elt F) f ((rowM c).view.read (Elt F) (gath m ρ)) Finset.univ))
      ⊢ (Rd (F := F) m ρ).payload ((nb c j : Thread nD τ), .dma (recvSem j)) 0 0 :=
    Entails.of_eq ((landing m ρ c (nb c j) f).trans ((payload_cell m ρ (nb c j) (.inr (.inr j)) 0).trans (pay_rcv m ρ c j)).symm)
  iapply (Rounds.wp_send_pointsTo 𝒱₀ ER (Rd m ρ) (c : Thread nD τ) none (c' := (nb c j : Thread nD τ)) (src := rowM c) (dst := rowM c)
      (sS := .dma (sendSem j)) (sem := .dma (recvSem j)) (κ₁ := K (c, .inr (.inl j))) (κ₂ := K (nb c j, .inr (.inr j)))
      (r₁ := 0) (r₂ := 0) (d₁ := 0) (d₂ := 0) (q := part j) (fs := gath m ρ) (fd := f)
      (mem_duties m ρ c (.inr (.inl j)) 0 (Finset.mem_singleton_self _)) (mem_duties m ρ (nb c j) (.inr (.inr j)) 0 (Finset.mem_singleton_self _))
      () () N rfl (amount_cell m ρ c (.inr (.inl j)) 0) (amount_cell m ρ (nb c j) (.inr (.inr j)) 0) (owesC c (j.val + 1)) (owesC_step c j) (W := W)
      hs
      hp) $$ [HtS HtR Hsrc Hdst HO]
  · isplitr; · iexact HIS
    isplitr; · iexact HIR
    isplitl [Hsrc]; · unfold rows; iexact Hsrc
    isplitl [Hdst]; · unfold rows; iexact Hdst
    isplitl [HO]; · iexact HO
    isplitl [HtS]; · iexact HtS
    isplitr; · iexact HrS
    isplitl [HtR]; · iexact HtR
    iexact HrR
  iintro ⟨Hc, HO⟩
  iapply Hk
  isplitl [HO]
  · iexists W; iexact HO
  isplitl [Hrest]; · iexact Hrest
  isplitl [Hc]; · iexact Hc
  iexact Hdone

/-! ## Waits for copies -/

/-- Before wait `j` on the cells `side` names, its receive cells or its send cells: nothing owed; for each wait to come
    the cell's credit and position; for each made the cell closed and what its copy handed over. -/
def toWait (side : Fin 7 → Fin 7 ⊕ Fin 7) (j : ℕ) : sProp 𝕄 :=
  iprop(debt c 0
    ∗ (bigSep (rest j) fun i => iprop(atPos ER (cell c (.inr (side i))) 0 ∅ 0 ∗ cred (tallyAt (cell c (.inr (side i))) () N)))
    ∗ bigSep (done j) fun i => iprop(semVal (cell c (.inr (side i))) 0 ∗ pay m ρ c (.inr (side i)) 0))

/-- Wait `j`. -/
theorem wait_step (side : Fin 7 → Fin 7 ⊕ Fin 7) (j : Fin 7) {s : DmaSem sig} (hs : semOf (.inr (side j)) = .dma s)
    {src dst : Memref sig .tc .vmem S256x256 .bf16} {hsrc : src.view.WordExact} {hdst : dst.view.WordExact} :
    iprop(records m ρ K ∗ toWait m ρ c side j.val)
      ⊢ iprop((toWait m ρ c side (j.val + 1) -∗ wp frame (wpE (defs₀ (F := F)) 𝒱₀ (c : Thread nD τ) none) Set.univ (k ⟨⟩) Q) -∗ wp frame (wpE (defs₀ (F := F)) 𝒱₀ (c : Thread nD τ) none) Set.univ (.op (.waitDma2 s src dst hsrc hdst) k) Q) := by
  unfold toWait debt
  rw [rest_take, done_put]
  iintro ⟨#HR, ⟨%W, HO⟩, ⟨⟨Ha, Hc⟩, Hrest⟩, Hdone⟩ Hk
  ihave Hi := (records_at m ρ K c (.inr (side j))) $$ HR
  icases Hi with ⟨#HI, -⟩
  have hN : dst.view.dmaCredit = N := rfl
  have hcell : ((c : Thread nD τ), SemLoc.dma s) = cell c (.inr (side j)) := by rw [← hs]
  iapply (Rounds.wp_wait_rest_token 𝒱₀ ER (Rd m ρ) (c : Thread nD τ) none (κ := K (c, .inr (side j)))
      (wpE_waitDma2_eq 𝒱₀ (c : Thread nD τ) none Set.univ) (Set.mem_univ _) () (O := 0) (W := W) (R := 0) (m := 0) (T := ∅)
      (by rw [hcell, expect_cell, hN, Nat.zero_add]; exact (Nat.one_mul _).symm)) $$ [Hc HO Ha]
  · rw [hcell, hN]
    isplitr; · iexact HI
    isplitl [Hc]; · iexact Hc
    isplitl [HO]; · iexact HO
    isplitr; · rw [MayWait_zero]; iempintro
    iexact Ha
  rw [hcell]
  iintro ⟨HO, Ha, -, Hp⟩
  imod (Rounds.cell_close ER (Rd m ρ) (Set.mem_univ (K (c, .inr (side j)))) (fun h => h) (R := 0 + 1) (duties_later m ρ (cell c (.inr (side j))))) $$ [Ha] with Hz
  · isplitr; · iexact HI
    iexact Ha
  iapply Hk
  isplitl [HO]
  · iexists _; iexact HO
  isplitl [Hrest]; · iexact Hrest
  isplitl [Hz Hp]
  · isplitl [Hz]; · iexact Hz
    iapply (Entails.of_eq ((payloads_cell m ρ c (.inr (side j))).trans bigSep_singleton))
    iexact Hp
  iexact Hdone

end Device

end Cert.KernelIdeal.Gather

end
-- ==== Proof.KernelIdeal.Body.lean ====
/-
The kernel's body on one device, from what the launch gives it to the gathered array.
-/
module

public import proofs.«01_k».proof.Proof.KernelIdeal.Steps
public import Idealize.ShloMosaic.Lib.Pipeline.Value
public import Idealize.ShloMosaic.Lib.Ring

@[expose] public section

noncomputable section

namespace Cert.KernelIdeal.Gather

open Cert.KernelIdeal Cert.KernelIdeal.Gen Cert.Around

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The devices that the printed words name -/

/-- The seven signals go to the seven followers, -/
theorem dev1_eq (c : Dev nD) : (⟨k0_dev1 c, k0_dev1_lt c⟩ : Dev nD) = nb c 0 := by revert c; decide +kernel
theorem dev2_eq (c : Dev nD) : (⟨k0_dev2 c, k0_dev2_lt c⟩ : Dev nD) = nb c 1 := by revert c; decide +kernel
theorem dev3_eq (c : Dev nD) : (⟨k0_dev3 c, k0_dev3_lt c⟩ : Dev nD) = nb c 2 := by revert c; decide +kernel
theorem dev4_eq (c : Dev nD) : (⟨k0_dev4 c, k0_dev4_lt c⟩ : Dev nD) = nb c 3 := by revert c; decide +kernel
theorem dev5_eq (c : Dev nD) : (⟨k0_dev5 c, k0_dev5_lt c⟩ : Dev nD) = nb c 4 := by revert c; decide +kernel
theorem dev6_eq (c : Dev nD) : (⟨k0_dev6 c, k0_dev6_lt c⟩ : Dev nD) = nb c 5 := by revert c; decide +kernel
theorem dev7_eq (c : Dev nD) : (⟨k0_dev7 c, k0_dev7_lt c⟩ : Dev nD) = nb c 6 := by revert c; decide +kernel
/-- and so do the seven copies. -/
theorem dev8_eq (c : Dev nD) : (⟨k0_dev8 c, k0_dev8_lt c⟩ : Dev nD) = nb c 0 := by revert c; decide +kernel
theorem dev9_eq (c : Dev nD) : (⟨k0_dev9 c, k0_dev9_lt c⟩ : Dev nD) = nb c 1 := by revert c; decide +kernel
theorem dev10_eq (c : Dev nD) : (⟨k0_dev10 c, k0_dev10_lt c⟩ : Dev nD) = nb c 2 := by revert c; decide +kernel
theorem dev11_eq (c : Dev nD) : (⟨k0_dev11 c, k0_dev11_lt c⟩ : Dev nD) = nb c 3 := by revert c; decide +kernel
theorem dev12_eq (c : Dev nD) : (⟨k0_dev12 c, k0_dev12_lt c⟩ : Dev nD) = nb c 4 := by revert c; decide +kernel
theorem dev13_eq (c : Dev nD) : (⟨k0_dev13 c, k0_dev13_lt c⟩ : Dev nD) = nb c 5 := by revert c; decide +kernel
theorem dev14_eq (c : Dev nD) : (⟨k0_dev14 c, k0_dev14_lt c⟩ : Dev nD) = nb c 6 := by revert c; decide +kernel

/-! ## Its own rows -/

/-- The rectangle that a device writes its block of `x` into, as the kernel computes it, -/
abbrev ownRect (c : Dev nD) : Rect S2048x256 := Rect.unit (s := S2048x256) (k0_off1 c) S256x256.size (k0_off1_inb c)

/-- is that of its own rows. -/
theorem ownRect_eq (c : Dev nD) : ownRect c = rowRect c := by
  have h : k0_off1 c = k0_off2 c := (k0_off1_eq c).trans (k0_off2_eq c).symm
  unfold ownRect rowRect
  congr 1

/-- That rectangle holds no element of other rows. -/
theorem own_set (c : Dev nD) : (oM.access (ownRect c)).set ⊆ rowSet c := by
  show ((View.whole cc0_stg1_0).slice (ownRect c)).set ⊆ ((View.whole cc0_stg1_0).slice (rowRect c)).set
  rw [ownRect_eq]

omit [FloatOps F] in
/-- Two zeros are no offset. -/
theorem zeros : (![0, 0] : Fin 2 → Nat) = fun _ => 0 := funext fun a => by fin_cases a <;> rfl

omit [FloatOps F] in
/-- The load of the whole staging copy of `x` reads all of it. -/
theorem read_x (f : (cc0_stg0_0 : Ref sig .tc).ty.Contents (Elt F)) :
    xM.view.readAt (Elt F) (Rect.unit (s := S256x256) ![0, 0] S256x256.size inb_S256x256_S256x256_0_0).toLoadRect f = f :=
  Memref.readAt_unit_zero (Elt F) cc0_stg0_0 zeros _ f

/-- Its block of `x` written into its own rows makes them the gathered array's. -/
theorem own_write (c : Dev nD) (f : (cc0_stg1_0 : Ref sig .tc).ty.Contents (Elt F)) :
    ((oM.access (ownRect c)).loc (c : Thread nD τ) ↦[rowSet c]{fullShare}
        ((oM.access (ownRect c)).write (Elt F) f (k0_pay1 (xstg m ρ c)) Finset.univ))
      = rows (F := F) c c fullShare (gath m ρ) := by
  have at_rows : ∀ (off : Fin 2 → ℕ) (inb : ∀ a, off a + S256x256.size a ≤ S2048x256.size a), off = k0_off2 c →
      ((oM.access (Rect.unit (s := S2048x256) off S256x256.size inb)).loc (c : Thread nD τ) ↦[rowSet c]{fullShare}
        ((oM.access (Rect.unit (s := S2048x256) off S256x256.size inb)).write (Elt F) f (xstg m ρ c) Finset.univ) : sProp 𝕄)
      = ((rowM c).view.loc (c : Thread nD τ) ↦[(rowM c).view.set]{fullShare} ((rowM c).view.write (Elt F) f (xstg m ρ c) Finset.univ)) := by
    intro off inb h; subst h; rfl
  have hp : k0_pay1 (xstg m ρ c) = xstg m ρ c := shapeCast_self _ _
  rw [← landing m ρ c c f, hp, read_gath]
  exact at_rows _ _ ((k0_off1_eq c).trans (k0_off2_eq c).symm)

/-! ## The result's buffer, whole and in blocks -/

omit [FloatOps F] in
/-- A result buffer held whole is the rows of every device. -/
theorem whole_rows (c : Dev nD) (f : (cc0_stg1_0 : Ref sig .tc).ty.Contents (Elt F)) :
    (((c : Thread nD τ).loc cc0_stg1_0) ↦{fullShare} f : sProp 𝕄) = bigSep Finset.univ fun b => rows c b fullShare f := by
  have h := Ring.pointsTo_blocks (Ix := Unit) (Name := ℕ) (U := UU) (Lvl := ℕ) (Val := Elt F) (ℓ := (c : Thread nD τ).loc cc0_stg1_0) (q := fullShare) (B := Dev nD) (fun b => rowSet b)
    (fun b b' h => rowSet_disjoint b b' h)
    (Finset.eq_univ_iff_forall.mpr fun i => Finset.mem_biUnion.mpr ⟨rowDev i, Finset.mem_univ _, (mem_rowSet _ i).mpr rfl⟩) f
  exact h
omit [FloatOps F] in
/-- So it is its device's rows and those of each follower, -/
theorem whole_nb (c : Dev nD) (f : (cc0_stg1_0 : Ref sig .tc).ty.Contents (Elt F)) :
    (((c : Thread nD τ).loc cc0_stg1_0) ↦{fullShare} f : sProp 𝕄)
      = iprop(rows c c fullShare f ∗ bigSep Finset.univ fun j => rows c (nb c j) fullShare f) :=
  (whole_rows c f).trans (all_nb c fun b => rows c b fullShare f)
omit [FloatOps F] in
/-- and is its device's rows and those of each forerunner. -/
theorem whole_pv (c : Dev nD) (f : (cc0_stg1_0 : Ref sig .tc).ty.Contents (Elt F)) :
    (((c : Thread nD τ).loc cc0_stg1_0) ↦{fullShare} f : sProp 𝕄)
      = iprop(rows c c fullShare f ∗ bigSep Finset.univ fun j => rows c (pv c j) fullShare f) :=
  (whole_rows c f).trans (all_pv c fun b => rows c b fullShare f)
omit [FloatOps F] in
/-- A device's own rows are the seven shares of them that its copies read. -/
theorem own_parts (c : Dev nD) (f : (cc0_stg1_0 : Ref sig .tc).ty.Contents (Elt F)) :
    rows (F := F) c c fullShare f = bigSep Finset.univ fun j => rows c c (part j) f :=
  Transfers.pointsTo_deal Finset.univ Finset.univ_nonempty fullShare

/-! ## The body -/

/-- The credits that the launch deals device `c`: seven units of its barrier, a copy's on each receive cell. -/
def credits (c : Dev nD) : sProp 𝕄 :=
  iprop(cred (tallyAt (bar c) () 7) ∗ bigSep Finset.univ fun j => cred (tallyAt (rcv c j) () N))
/-- Its positions in its own cells, and the tokens of the duties that it pays. -/
def held (c : Dev nD) : sProp 𝕄 :=
  iprop((atPos ER (bar c) 0 ∅ 0 ∗ (bigSep Finset.univ fun j => atPos ER (snd c j) 0 ∅ 0) ∗ bigSep Finset.univ fun j => atPos ER (rcv c j) 0 ∅ 0)
    ∗ (bigSep Finset.univ fun j => dutyTok ER (bar (nb c j)) 0 j.rev)
    ∗ (bigSep Finset.univ fun j => dutyTok ER (snd c j) 0 0)
    ∗ bigSep Finset.univ fun j => dutyTok ER (rcv (nb c j) j) 0 0)

/-- The counters of its cells at zero, every cell closed. -/
def closed (c : Dev nD) : sProp 𝕄 :=
  iprop(semVal (bar c) 0 ∗ (bigSep Finset.univ fun j => semVal (snd c j) 0) ∗ bigSep Finset.univ fun j => semVal (rcv c j) 0)

/-- What the body leaves: nothing owed, the block of `x` as it was, the gathered array, every cell closed. -/
def left (c : Dev nD) : sProp 𝕄 :=
  iprop(debt c 0 ∗ (((c : Thread nD τ).loc cc0_stg0_0) ↦{fullShare} xstg m ρ c) ∗ (((c : Thread nD τ).loc cc0_stg1_0) ↦{fullShare} gath m ρ) ∗ closed c)

section Phases
variable (c : Dev nD)

/-- The signals begin: each hands over a follower's rows. -/
theorem signals_begin (f : (cc0_stg1_0 : Ref sig .tc).ty.Contents (Elt F)) :
    iprop(debt (F := F) c (O₀ c) ∗ (bigSep Finset.univ fun j => dutyTok ER (bar (nb c j)) 0 j.rev) ∗ bigSep Finset.univ fun j => rows c (nb c j) fullShare f)
      ⊢ toSignal (F := F) c (0 : Fin 7).val := by
  unfold toSignal
  rw [show ((0 : Fin 7).val) = 0 from rfl, rest_zero, bigSep_sep']
  iintro ⟨HO, Ht, Hf⟩
  isplitl [HO]; · iexact HO
  isplitl [Ht]; · iexact Ht
  have some_rows : ∀ j : Fin 7, rows (F := F) c (nb c j) fullShare f ⊢ iprop(∃ f, rows c (nb c j) fullShare f) := fun j => by
    iintro H; iexists f; iexact H
  have all_rows : (bigSep Finset.univ fun j => rows (F := F) c (nb c j) fullShare f) ⊢ bigSep Finset.univ fun j => iprop(∃ f, rows c (nb c j) fullShare f) :=
    bigSep_mono fun j _ => some_rows j
  iapply all_rows
  iexact Hf

/-- The signals given, the copies are owed. -/
theorem signals_end : toSignal (F := F) c ((6 : Fin 7).val + 1) ⊢ debt (F := F) c (owesC c 0) := by
  unfold toSignal
  rw [show ((6 : Fin 7).val + 1) = 7 from rfl, owesS_end]
  iintro ⟨HO, -⟩; iexact HO

/-- The copies begin, when the device's own rows are written. -/
theorem copies_begin :
    iprop(debt (F := F) c (owesC c 0) ∗ (bigSep Finset.univ fun j => dutyTok ER (snd c j) 0 0) ∗ (bigSep Finset.univ fun j => dutyTok ER (rcv (nb c j) j) 0 0)
        ∗ rows c c fullShare (gath m ρ) ∗ given c)
      ⊢ toCopy m ρ c (0 : Fin 7).val := by
  unfold toCopy given
  rw [show ((0 : Fin 7).val) = 0 from rfl, rest_zero, done_none, own_parts, bigSep_sep', bigSep_sep', bigSep_sep']
  iintro ⟨HO, HtS, HtR, Ho, Hg⟩
  isplitl [HO]; · iexact HO
  isplitl
  · isplitl [HtS]; · iexact HtS
    isplitl [HtR]; · iexact HtR
    isplitl [Ho] <;> iassumption
  iempintro

/-- The copies sent, nothing is owed, and every send cell's credit is at hand. -/
theorem copies_end : toCopy m ρ c ((6 : Fin 7).val + 1) ⊢ iprop(debt (F := F) c 0 ∗ bigSep Finset.univ fun j => cred (tallyAt (snd c j) () N)) := by
  unfold toCopy
  rw [show ((6 : Fin 7).val + 1) = 7 from rfl, owesC_end, done_seven]
  iintro ⟨HO, -, Hc⟩
  isplitl [HO] <;> iassumption

/-- The waits on one side's cells begin, -/
theorem waits_begin (side : Fin 7 → Fin 7 ⊕ Fin 7) :
    iprop(debt (F := F) c 0 ∗ (bigSep Finset.univ fun j => atPos ER (cell c (.inr (side j))) 0 ∅ 0)
        ∗ bigSep Finset.univ fun j => cred (tallyAt (cell c (.inr (side j))) () N))
      ⊢ toWait m ρ c side (0 : Fin 7).val := by
  unfold toWait
  rw [show ((0 : Fin 7).val) = 0 from rfl, rest_zero, done_none, bigSep_sep']
  iintro ⟨HO, Ha, Hc⟩
  isplitl [HO]; · iexact HO
  isplitl
  · isplitl [Ha] <;> iassumption
  iempintro

/-- and end. -/
theorem waits_end (side : Fin 7 → Fin 7 ⊕ Fin 7) :
    toWait m ρ c side ((6 : Fin 7).val + 1)
      ⊢ iprop(debt (F := F) c 0 ∗ (bigSep Finset.univ fun j => semVal (cell c (.inr (side j))) 0) ∗ bigSep Finset.univ fun j => pay m ρ c (.inr (side j)) 0) := by
  unfold toWait
  rw [show ((6 : Fin 7).val + 1) = 7 from rfl, rest_none, done_seven, bigSep_sep']
  iintro ⟨HO, -, H⟩
  isplitl [HO]; · iexact HO
  iexact H

end Phases

set_option maxHeartbeats 4000000 in
/-- The body, operation by operation in program order. -/
theorem body (K : Dev nD × Kind → ℕ) (c : Dev nD) (f : (cc0_stg1_0 : Ref sig .tc).ty.Contents (Elt F)) (Kt : PUnit → sProp 𝕄) :
    iprop(records m ρ K ∗ levAts L lv ∗ credits c ∗ held c ∗ debt c (O₀ c)
        ∗ (((c : Thread nD τ).loc cc0_stg0_0) ↦{fullShare} xstg m ρ c) ∗ (((c : Thread nD τ).loc cc0_stg1_0) ↦{fullShare} f)
        ∗ (left m ρ c -∗ Kt ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _)
            cc0_scratch0 cc0_scratch1) Kt := by
  simp only [cc0_body_eq_skeleton]
  unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton]
  unfold k0_part1_skel k0_part2_skel k0_part3_skel k0_part4_skel k0_part5_skel k0_part6_skel k0_part7_skel k0_part8_skel k0_part9_skel
    k0_part10_skel k0_part11_skel k0_part12_skel
  simp only [semSignalWord, semWaitWord, Prog.lift, Prog.bind_op, Prog.bind_ret, Prog.pure_eq_ret, wp_deviceId]
  rw [whole_nb]
  unfold credits held
  iintro ⟨#HR, #HL, ⟨HcB, HcR⟩, ⟨⟨HaB, HaS, HaR⟩, HtB, HtS, HtR⟩, HO, Hx, ⟨Hown, Hothers⟩, Hk⟩
  -- the seven signals
  ihave H := (signals_begin c f) $$ [HO HtB Hothers]
  · isplitl [HO]; · iexact HO
    isplitl [HtB] <;> iassumption
  iapply (signal_step m ρ K c 0 (dev1_eq c) (by decide)) $$ [H]; · isplitr; (· iexact HR); iexact H
  iintro H
  iapply (signal_step m ρ K c 1 (dev2_eq c) (by decide)) $$ [H]; · isplitr; (· iexact HR); iexact H
  iintro H
  iapply (signal_step m ρ K c 2 (dev3_eq c) (by decide)) $$ [H]; · isplitr; (· iexact HR); iexact H
  iintro H
  iapply (signal_step m ρ K c 3 (dev4_eq c) (by decide)) $$ [H]; · isplitr; (· iexact HR); iexact H
  iintro H
  iapply (signal_step m ρ K c 4 (dev5_eq c) (by decide)) $$ [H]; · isplitr; (· iexact HR); iexact H
  iintro H
  iapply (signal_step m ρ K c 5 (dev6_eq c) (by decide)) $$ [H]; · isplitr; (· iexact HR); iexact H
  iintro H
  iapply (signal_step m ρ K c 6 (dev7_eq c) (by decide)) $$ [H]; · isplitr; (· iexact HR); iexact H
  iintro H
  ihave HO := (signals_end c) $$ H
  -- the barrier
  iapply (barrier_step m ρ K c (by decide)) $$ [HcB HaB HO]
  · isplitr; · iexact HR
    isplitr; · iexact HL
    isplitl [HcB]; · iexact HcB
    isplitl [HaB] <;> iassumption
  iintro ⟨HO, HzB, Hg⟩
  -- its block of `x` into its own rows
  iapply (wp_load 𝒱₀ (c : Thread nD τ) none Set.univ (m := xM) (Finset.subset_univ _)) $$ Hx; iintro Hx
  rw [read_x]
  unfold rows
  iapply (wp_load_rect 𝒱₀ (c : Thread nD τ) none Set.univ (m := oM) (r := ownRect c) (own_set c)) $$ Hown; iintro Hown
  iapply (wp_store 𝒱₀ (c : Thread nD τ) none Set.univ (m := oM) (r := ownRect c) (Mk := Finset.univ) (own_set c)) $$ Hown; iintro Hown
  ihave Hown := (Entails.of_eq (own_write m ρ c f)) $$ Hown
  -- the seven copies
  ihave H := (copies_begin m ρ c) $$ [HO HtS HtR Hown Hg]
  · isplitl [HO]; · iexact HO
    isplitl [HtS]; · iexact HtS
    isplitl [HtR]; · iexact HtR
    isplitl [Hown] <;> iassumption
  iapply (copy_step m ρ K c 0 (dev8_eq c)) $$ [H]; · isplitr; (· iexact HR); iexact H
  iintro H
  iapply (copy_step m ρ K c 1 (dev9_eq c)) $$ [H]; · isplitr; (· iexact HR); iexact H
  iintro H
  iapply (copy_step m ρ K c 2 (dev10_eq c)) $$ [H]; · isplitr; (· iexact HR); iexact H
  iintro H
  iapply (copy_step m ρ K c 3 (dev11_eq c)) $$ [H]; · isplitr; (· iexact HR); iexact H
  iintro H
  iapply (copy_step m ρ K c 4 (dev12_eq c)) $$ [H]; · isplitr; (· iexact HR); iexact H
  iintro H
  iapply (copy_step m ρ K c 5 (dev13_eq c)) $$ [H]; · isplitr; (· iexact HR); iexact H
  iintro H
  iapply (copy_step m ρ K c 6 (dev14_eq c)) $$ [H]; · isplitr; (· iexact HR); iexact H
  iintro H
  ihave H := (copies_end m ρ c) $$ H
  icases H with ⟨HO, HcS⟩
  -- the seven blocks that come
  ihave H := (waits_begin m ρ c .inr) $$ [HO HaR HcR]
  · isplitl [HO]; · iexact HO
    isplitl [HaR] <;> iassumption
  iapply (wait_step m ρ K c .inr 0 rfl) $$ [H]; · isplitr; (· iexact HR); iexact H
  iintro H
  iapply (wait_step m ρ K c .inr 1 rfl) $$ [H]; · isplitr; (· iexact HR); iexact H
  iintro H
  iapply (wait_step m ρ K c .inr 2 rfl) $$ [H]; · isplitr; (· iexact HR); iexact H
  iintro H
  iapply (wait_step m ρ K c .inr 3 rfl) $$ [H]; · isplitr; (· iexact HR); iexact H
  iintro H
  iapply (wait_step m ρ K c .inr 4 rfl) $$ [H]; · isplitr; (· iexact HR); iexact H
  iintro H
  iapply (wait_step m ρ K c .inr 5 rfl) $$ [H]; · isplitr; (· iexact HR); iexact H
  iintro H
  iapply (wait_step m ρ K c .inr 6 rfl) $$ [H]; · isplitr; (· iexact HR); iexact H
  iintro H
  ihave H := (waits_end m ρ c .inr) $$ H
  icases H with ⟨HO, HzR, Hcome⟩
  -- the seven shares that come back
  ihave H := (waits_begin m ρ c .inl) $$ [HO HaS HcS]
  · isplitl [HO]; · iexact HO
    isplitl [HaS] <;> iassumption
  iapply (wait_step m ρ K c .inl 0 rfl) $$ [H]; · isplitr; (· iexact HR); iexact H
  iintro H
  iapply (wait_step m ρ K c .inl 1 rfl) $$ [H]; · isplitr; (· iexact HR); iexact H
  iintro H
  iapply (wait_step m ρ K c .inl 2 rfl) $$ [H]; · isplitr; (· iexact HR); iexact H
  iintro H
  iapply (wait_step m ρ K c .inl 3 rfl) $$ [H]; · isplitr; (· iexact HR); iexact H
  iintro H
  iapply (wait_step m ρ K c .inl 4 rfl) $$ [H]; · isplitr; (· iexact HR); iexact H
  iintro H
  iapply (wait_step m ρ K c .inl 5 rfl) $$ [H]; · isplitr; (· iexact HR); iexact H
  iintro H
  iapply (wait_step m ρ K c .inl 6 rfl) $$ [H]; · isplitr; (· iexact HR); iexact H
  iintro H
  ihave H := (waits_end m ρ c .inl) $$ H
  icases H with ⟨HO, HzS, Hback⟩
  -- the buffer whole again
  rw [wp_ret]; imodintro
  iapply Hk
  unfold left closed
  isplitl [HO]; · iexact HO
  isplitl [Hx]; · iexact Hx
  isplitl [Hback Hcome]
  · rw [whole_pv, own_parts]
    isplitl [Hback]; · iexact Hback
    iexact Hcome
  isplitl [HzB]; · iexact HzB
  isplitl [HzS] <;> iassumption

end Cert.KernelIdeal.Gather

end
-- ==== Proof.KernelIdeal.Deal.lean ====
/-
What the launch makes the devices start from: the cells' agreements allocated for all devices at once, each duty's
token dealt to the device that pays it, and the credits that the devices' debts at launch amount to.
-/
module

public import proofs.«01_k».proof.Proof.KernelIdeal.Body
public import Idealize.ShloMosaic.Lib.SparseCore.ProtocolKit

@[expose] public section

noncomputable section

namespace Cert.KernelIdeal.Gather

open Cert.KernelIdeal Cert.KernelIdeal.Gen Cert.Around

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## A device's cells, kind by kind -/

/-- One assertion for each of a device's cells. -/
theorem by_kind {M : Type} [URA M] (Φ : Kind → sProp M) :
    bigSep Finset.univ Φ = iprop(Φ (.inl ()) ∗ (bigSep Finset.univ fun j => Φ (.inr (.inl j))) ∗ bigSep Finset.univ fun j => Φ (.inr (.inr j))) := by
  rw [bigSep_univ_sum, bigSep_univ_sum, bigSep_univ_of_subsingleton ()]; rfl

/-- The kernel's own semaphores: those of the send and the receive cells. -/
abbrev osem (x : Fin 7 ⊕ Fin 7) : SemLoc sig := semOf (.inr x)

/-- They are scoped, distinct, and none of the pipeline's. -/
theorem ownSemFacts : Pipeline.OwnSemFacts cfg0.spec osem := by decide

omit [FloatOps F] in
/-- The counters at zero that a device starts with are those of its cells. -/
theorem zeros_eq (c : Dev nD) :
    iprop(unscopedSems0 c ∗ Pipeline.ownSems0 (Ix := Unit) (Name := ℕ) (U := UU) (Lvl := ℕ) (Val := Elt F) (τ := τ) osem c)
      = (closed c : sProp 𝕄) := by
  unfold unscopedSems0 Pipeline.ownSems0 closed
  rw [bigSep_eq_bigSepL_of_eq [SemLoc.reg barSem] (by decide) (by decide), bigSep_univ_sum]; rfl

/-! ## The cells and the tokens of their duties -/

/-- All cells, -/
def cells : Finset (GSem nD τ sig) := Finset.univ.map ⟨fun ck : Dev nD × Kind => cell ck.1 ck.2, cell_inj⟩

/-- A device's duties: its barrier's seven, and one for each other cell. -/
abbrev Duty : Type := Fin 7 ⊕ Fin 7 ⊕ Fin 7
/-- The cell that a duty is of, -/
def kindOfDuty : Duty → Kind
  | .inl _ => .inl ()
  | .inr x => .inr x
/-- and its number there. -/
def numOfDuty : Duty → Fin 7
  | .inl j => j
  | .inr _ => 0
/-- A duty's token names its cell, its round and its number. -/
def token (x : Dev nD × Duty) : GSem nD τ sig × ℕ × Fin 7 := (cell x.1 (kindOfDuty x.2), 0, numOfDuty x.2)

/-- No two duties have one token. -/
theorem token_inj : Function.Injective token := by
  rintro ⟨c, x⟩ ⟨c', x'⟩ h
  have hk := cell_inj (a₁ := (c, kindOfDuty x)) (a₂ := (c', kindOfDuty x')) (congrArg (fun t => t.1) h)
  have hd : numOfDuty x = numOfDuty x' := congrArg (fun t => t.2.2) h
  have hc : c = c' := congrArg (fun t => t.1) hk
  have hx : kindOfDuty x = kindOfDuty x' := congrArg (fun t => t.2) hk
  subst hc
  rcases x with j | x <;> rcases x' with j' | x' <;> cases hx
  · exact congrArg (fun j => (c, Sum.inl j)) hd
  · rfl

/-- All tokens. -/
def tokens : Finset (GSem nD τ sig × ℕ × Fin 7) := Finset.univ.map ⟨token, token_inj⟩

/-- What the launch begins with: the pipeline's rounds and the gathering's. -/
def u₀ : UU :=
  (initOf (Pipeline.cells cfgs cellOf_inj) (Pipeline.launchToks cfgs cellOf_inj), initOf cells tokens)

/-- The tokens of the duties of device `c`'s own cells. -/
def own (c : Dev nD) : sProp 𝕄 :=
  iprop((bigSep Finset.univ fun j => dutyTok ER (bar c) 0 j) ∗ (bigSep Finset.univ fun j => dutyTok ER (snd c j) 0 0)
    ∗ bigSep Finset.univ fun j => dutyTok ER (rcv c j) 0 0)

/-- Where device `c` stands in its cells, and that each has reached its round. -/
def stands (c : Dev nD) : sProp 𝕄 :=
  iprop((bigSep Finset.univ fun k : Kind => atPos ER (cell c k) 0 ∅ 0) ∗ bigSep Finset.univ fun k : Kind => reached ER (cell c k) 0)

/-- What the launch deals device `c` at first, -/
def G (c : Dev nD) : sProp 𝕄 :=
  iprop((bigSep Finset.univ fun k : Kind => roundState ER (Rd m ρ) (cell c k) 0) ∗ stands c ∗ own c)
/-- and what it holds when all devices' agreements are allocated. -/
def G' (c : Dev nD) : sProp 𝕄 := iprop(∃ K, records m ρ K ∗ held c)

omit [FloatOps F] in
/-- The rounds at launch give every device what it is dealt at first. -/
theorem fund : BI.own (ER (initOf cells tokens)) ⊢ (|==> bigSep Finset.univ (G m ρ) : sProp 𝕄) := by
  have hc (Φ : GSem nD τ sig → sProp 𝕄) : bigSep cells Φ = bigSep Finset.univ fun c : Dev nD => bigSep Finset.univ fun k : Kind => Φ (cell c k) := by
    unfold cells; rw [bigSep_map, bigSep_univ_prod]; rfl
  have ht : bigSep tokens (fun x => (dutyTok ER x.1 x.2.1 x.2.2 : sProp 𝕄)) = bigSep Finset.univ fun c : Dev nD => own c := by
    unfold tokens; rw [bigSep_map, bigSep_univ_prod]
    exact bigSep_congr fun c _ => by unfold own; rw [bigSep_univ_sum, bigSep_univ_sum]; rfl
  iintro H
  imod (Rounds.fund ER (Rd m ρ) cells tokens) $$ H with ⟨Hs, Hr, Ha, Ht⟩
  imodintro
  ihave Hs := (Entails.of_eq (hc fun g => roundState ER (Rd m ρ) g 0)) $$ Hs
  ihave Ha := (Entails.of_eq (hc fun g => atPos ER g 0 ∅ 0)) $$ Ha
  ihave Hr := (Entails.of_eq (hc fun g => reached ER g 0)) $$ Hr
  ihave Ht := (Entails.of_eq ht) $$ Ht
  unfold G stands; simp only [bigSep_sep']
  isplitl [Hs]; · iexact Hs
  isplitl [Ha Hr]
  · isplitl [Ha] <;> iassumption
  iexact Ht

/-! ## The agreements -/

/-- Device `c`'s agreements, under some names. -/
def agreed (c : Dev nD) : sProp 𝕄 := bigSep Finset.univ fun k : Kind => iprop(∃ κ : ℕ, cellInv ER (Rd m ρ) κ (cell c k))

omit [FloatOps F] in
/-- A device's agreements allocated out of its counters and its rounds. -/
theorem agree (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop(agreed m ρ c ∗ stands c ∗ own c) := by
  have halloc : iprop((bigSep Finset.univ fun k : Kind => semVal (cell c k) 0) ∗ bigSep Finset.univ fun k : Kind => roundState ER (Rd m ρ) (cell c k) 0)
      ⊢ (|={Set.univ}=> agreed m ρ c : sProp 𝕄) := by
    rw [← bigSep_sep']
    exact (bigSep_mono fun k _ => (Rounds.body_intro ER (Rd m ρ) (cell c k)).trans inv_alloc).trans (bigSep_fupd _ _)
  have hz : closed c = (bigSep Finset.univ fun k : Kind => semVal (cell c k) 0 : sProp 𝕄) :=
    (by_kind fun k : Kind => (semVal (cell c k) 0 : sProp 𝕄)).symm
  unfold G
  iintro ⟨Ho, Hu, Hs, Ha, Ht⟩
  ihave Hv := (Entails.of_eq ((zeros_eq (F := F) c).trans hz)) $$ [Ho Hu]
  · isplitl [Hu] <;> iassumption
  imod halloc $$ [Hv Hs] with Hi
  · isplitl [Hv] <;> iassumption
  imodintro
  isplitl [Hi]; · iexact Hi
  isplitl [Ha] <;> iassumption

omit [FloatOps F] in
/-- Every duty's token goes to the device that pays it: a barrier's to the device that signals, a receive cell's to the
    one that copies, a send cell's stays. -/
theorem deal (c : Dev nD → sProp 𝕄) :
    iprop(bigSep Finset.univ c ∗ bigSep Finset.univ fun c : Dev nD => own (F := F) c)
      = bigSep Finset.univ fun d : Dev nD => iprop(c d ∗ (bigSep Finset.univ fun j => dutyTok ER (bar (nb d j)) 0 j.rev)
          ∗ (bigSep Finset.univ fun j => dutyTok ER (snd d j) 0 0) ∗ bigSep Finset.univ fun j => dutyTok ER (rcv (nb d j) j) 0 0) := by
  unfold own
  rw [bigSep_sep', bigSep_sep', bigSep_sep', bigSep_sep', bigSep_sep', deal_rev fun (d : Dev nD) j => (dutyTok ER (bar d) 0 j : sProp 𝕄),
    deal_nb fun (d : Dev nD) j => (dutyTok ER (rcv d j) 0 0 : sProp 𝕄)]

omit [FloatOps F] in
/-- What all know goes to each. -/
theorem to_each {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ := by
  have h' : iprop((bigSep Finset.univ fun _ : Dev nD => R) ∗ bigSep Finset.univ Φ) ⊢ bigSep Finset.univ Ψ := by
    rw [← bigSep_sep']; exact bigSep_mono fun c _ => h c
  iintro ⟨#HR, H⟩
  iapply h'
  isplitr
  · iapply (BI.bigSep_of_persistent (Finset.univ : Finset (Dev nD)) R); iexact HR
  iexact H

omit [FloatOps F] in
/-- The agreements shared and the tokens dealt, every device has what it starts from. -/
theorem regroup :
    (bigSep Finset.univ fun c : Dev nD => iprop(agreed m ρ c ∗ stands c ∗ own c) : sProp 𝕄) ⊢ bigSep Finset.univ (G' m ρ) := by
  have hpos : (bigSep Finset.univ fun c : Dev nD => bigSep Finset.univ fun k : Kind => (atPos ER (cell c k) 0 ∅ 0 : sProp 𝕄))
      = bigSep Finset.univ fun c : Dev nD => iprop(atPos ER (bar c) 0 ∅ 0 ∗ (bigSep Finset.univ fun j => atPos ER (snd c j) 0 ∅ 0) ∗ bigSep Finset.univ fun j => atPos ER (rcv c j) 0 ∅ 0) :=
    bigSep_congr fun c _ => by_kind _
  unfold agreed stands
  rw [bigSep_sep', bigSep_sep', bigSep_sep', hpos, ← bigSep_univ_prod (fun ck : Dev nD × Kind => iprop(∃ κ : ℕ, cellInv ER (Rd m ρ) κ (cell ck.1 ck.2))),
    ← bigSep_univ_prod (fun ck : Dev nD × Kind => (reached ER (cell ck.1 ck.2) 0 : sProp 𝕄))]
  iintro ⟨HI, ⟨Ha, #Hr⟩, Ht⟩
  ihave HK := (BI.bigSep_exists_pi Finset.univ (fun (ck : Dev nD × Kind) (κ : ℕ) => (cellInv ER (Rd m ρ) κ (cell ck.1 ck.2) : sProp 𝕄))) $$ HI
  icases HK with ⟨%K, #HI⟩
  have hone : ∀ c : Dev nD, iprop(records m ρ K ∗ held c) ⊢ G' m ρ c := fun c => by
    unfold G'; iintro H; iexists K; iexact H
  iapply (to_each (R := records m ρ K) hone)
  isplitr
  · unfold records; isplitl; · iexact HI
    iexact Hr
  · unfold held
    iapply (Entails.of_eq (deal (F := F) _))
    isplitl [Ha] <;> iassumption

omit [FloatOps F] in
/-- All devices' agreements at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => agree m ρ c).trans (bigSep_fupd _ _)).trans (BI.fupd_mono (regroup m ρ))

/-! ## The credits -/

omit [FloatOps F] in
/-- A step's debts, one of each device to its follower there, are a credit to each device. -/
theorem credit_steps (sm : Fin 7 → SemLoc sig) (n : ℕ) (c : Dev nD) :
    (bigSep Finset.univ fun j : Fin 7 => Pipeline.launchCred (fun d : Dev nD => tallyAt ((nb d j : Thread nD τ), sm j) () n) c : sProp 𝕄)
      ⊢ bigSep Finset.univ fun j : Fin 7 => cred (tallyAt ((c : Thread nD τ), sm j) () n) :=
  bigSep_mono fun j _ => Pipeline.launchCred_tallyAt (sm j) (fun d => nb d j) (fun d => pv d j) (fun d => nb_pv d j) (fun d => pv_nb d j) () n c

omit [FloatOps F] in
/-- What the devices owe at launch is what each of them waits for. -/
theorem credits_intro (c : Dev nD) : (Pipeline.launchCred O₀ c : sProp 𝕄) ⊢ credits c := by
  have hbar : (bigSep (Finset.univ : Finset (Fin 7)) fun _ => cred (tallyAt (bar c) () 1) : sProp 𝕄) = cred (tallyAt (bar c) () 7) := by
    rw [← Pipeline.cred_finsetSum, SparseCore.ProtocolKit.sum_tallyAt_const]; rfl
  unfold credits
  rw [← hbar, show (O₀ : Dev nD → CellTallies nD τ sig Unit)
      = fun d => (∑ j ∈ rest 0, tallyAt (rcv (nb d j) j) () N) + ∑ j ∈ rest 0, tallyAt (bar (nb d j)) () 1 from rfl,
    Pipeline.launchCred_add, Pipeline.launchCred_sum, Pipeline.launchCred_sum, rest_zero]
  iintro ⟨HR, HB⟩
  isplitl [HB]
  · iapply (credit_steps (F := F) (fun _ => semOf (.inl ())) 1 c); iexact HB
  · iapply (credit_steps (F := F) (fun j => semOf (.inr (.inr j))) N c); iexact HR

end Cert.KernelIdeal.Gather

end
-- ==== Proof.KernelIdeal.Run.lean ====
/-
The kernel's run on eight devices: it ends, with every counter at zero, every device's block of `x` as it was and every
device's result the gathered array.
-/
module

public import proofs.«01_k».proof.Proof.KernelIdeal.Deal
public import Idealize.ShloMosaic.Lib.Pipeline.CollectiveSegs
public import Idealize.ShloMosaic.Lib.StableHlo.RunHlo

@[expose] public section

noncomputable section

namespace Cert.KernelIdeal.Gather

open Cert.KernelIdeal Cert.KernelIdeal.Gen Cert.Around

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The one point of the kernel's grid -/

/-- What device `c` starts its point with, beside the staging buffers. -/
def start (c : Dev nD) : sProp 𝕄 := iprop(G' m ρ c ∗ credits c ∗ levAts L lv)

/-- The arrays at launch, what the point leaves in the staging buffers, what a device holds and owes before the point and after. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => gath m ρ
  Φ t := match t with
    | ⟨0, _⟩ => start m ρ c
    | ⟨_ + 1, _⟩ => closed c
  q _ := fullShare
  owed t := match t with
    | ⟨0, _⟩ => O₀ c
    | ⟨_ + 1, _⟩ => 0

/-- The point. -/
abbrev pt : Fin cfg0.N := t0_0

omit [FloatOps F] in
/-- A staging buffer owned at contents `X`, as the body has it. -/
theorem owns_stage (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staging buffer of device `c` with contents `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- The point's beginning, -/
def ahead (c : Dev nD) : sProp 𝕄 :=
  iprop(start m ρ c ∗ (dats m ρ 0 c).owesAt () pt.castSucc
    ∗ (∃ d, stg c cc0_stg0_0 ((dats m ρ 0 c).before (0 : Fin 2) pt d)) ∗ ∃ d, stg c cc0_stg1_0 ((dats m ρ 0 c).before (1 : Fin 2) pt d))
/-- and its end. -/
def behind (c : Dev nD) : sProp 𝕄 :=
  iprop(closed c ∗ (dats m ρ 0 c).owesAt () pt.succ ∗ stg c cc0_stg0_0 (xstg m ρ c) ∗ stg c cc0_stg1_0 (gath m ρ))

/-- The body leads from the one to the other. -/
theorem point (c : Dev nD) :
    ahead m ρ c ⊢ wp frame (wpE (defs₀ (F := F)) 𝒱₀ (c : Thread nD τ) none) Set.univ
      (cc0_body (Memref.whole cc0_stg0_0) (Memref.isWhole_whole _) (Memref.whole cc0_stg1_0) (Memref.isWhole_whole _) cc0_scratch0 cc0_scratch1)
      (fun _ => behind m ρ c) := by
  unfold ahead start G' Dat.owesAt Pipeline.owesWithin
  rw [show (dats m ρ 0 c).owed pt.castSucc = O₀ c from rfl]
  iintro ⟨⟨⟨%K, HR, Hh⟩, Hc, HL⟩, ⟨%W, -, HO⟩, ⟨%d0, %f0, %h0, Hx⟩, ⟨%d1, %f1, -, Ho⟩⟩
  have hx : f0 = xstg m ρ c := by
    rw [h0]; unfold Dat.before; rw [if_pos (show (cfg0.win (0 : Fin 2)).fetch pt = true from fetch0_0 _)]; rfl
  subst hx
  iapply (body m ρ K c f1 fun _ => behind m ρ c)
  isplitl [HR]; · iexact HR
  isplitl [HL]; · iexact HL
  isplitl [Hc]; · iexact Hc
  isplitl [Hh]; · iexact Hh
  isplitl [HO]
  · unfold debt; iexists W; iexact HO
  isplitl [Hx]; · iexact Hx
  isplitl [Ho]; · iexact Ho
  unfold left behind debt Dat.owesAt Pipeline.owesWithin
  rw [show (dats m ρ 0 c).owed pt.succ = 0 from rfl]
  iintro ⟨⟨%W', HO⟩, Hx, Ho, Hz⟩
  isplitl [Hz]; · iexact Hz
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Ho

set_option maxRecDepth 4000 in
/-- The body does what the pipeline asks of it. -/
theorem obligation (c : Dev nD) : BodyObligation (dats (F := F) m ρ 0 c) (defs₀ (F := F)) 𝒱₀ () Set.univ := fun t => by
  rw [show t = pt from fin_N0 t]
  rw [bigSep_W0, bigSep_W0]
  simp only [owns_stage]
  exact point m ρ c

/-! ## The launch -/

/-- Every array is held whole. -/
theorem share_full (c : Dev nD) (w : Fin cfg0.W) : (dats m ρ 0 c).share w = fullShare := by unfold Dat.share; split <;> rfl

omit [FloatOps F] in
/-- What the launch gives a device is what it starts with; -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, HL, Hc, -, HG⟩
  ihave Hc := (credits_intro (F := F) c) $$ Hc
  imodintro
  unfold start
  isplitl
  · isplitl [HG]; · iexact HG
    isplitl [Hc] <;> iassumption
  · iempintro

/-- that is what its point begins with, -/
theorem start_point (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = start m ρ c from rfl]
  iintro ⟨Hs, -, -⟩; iexact Hs

/-- and what the point ends with is what the launch takes back. -/
theorem end_point (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = closed c from rfl, scopedRest0_eq, ← zeros_eq]
  iintro ⟨Hu, Ho⟩
  isplitl [Hu]; · iexact Hu
  isplitl [Ho]; · iexact Ho
  iempintro

/-- The pipeline's own waits are below all that a device owes. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

set_option maxRecDepth 8000 in
/-- From any memory with its counters at zero every fair run ends, in a state where each window's array is what the point
    leaves and every counter is at zero. -/
theorem run_arrays : θ_run defs (onTc (τ := τ) (main (F := F))) (s₀ m ρ)
    (fun r => (∀ (c : Dev nD) (w : Fin cfg0.W), r.2.mem ((cfg0.win w).arr.view.loc (c : Thread nD τ)) = (dats m ρ 0 c).arrAt w cfg0.N)
      ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := obligation m ρ) (hne := block_pos0) (harr := arr_whole0) (hstage := stage_whole0) (hshare := share_full m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro H
      ihave H := (ownU_pair _ _) $$ H
      icases H with ⟨HP, HR⟩
      imod (fund m ρ) $$ HR with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := start_point m ρ) (hout := end_point m ρ)
    (QY := fun c s => ∀ sm : SemLoc sig, sm.isScoped .tc = false → s.sem ((c.tc : Thread nD τ), sm) = 0)
    (hY := fun c s' => by
      iintro ⟨Hu, -, HS⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The arrays at the end -/

/-- A block of `x` is as it was; -/
theorem final_x (c : Dev nD) : (dats m ρ 0 c).arrAt (0 : Fin 2) cfg0.N = (s₀ m ρ).mem ((c : Thread nD τ).loc main_arg0) :=
  (dats (F := F) m ρ 0 c).arrAt_in (0 : Fin 2) rfl _

/-- every result is the gathered array. -/
theorem final_out (c : Dev nD) : (dats m ρ 0 c).arrAt (1 : Fin 2) cfg0.N = gath m ρ := by
  have hz : (fun a => win0_1.index (0 : Fin 1) a * main_v1.ty.shape.size a) = fun _ => 0 := funext fun a => by fin_cases a <;> decide
  have whole : ∀ f, (win0_1.blk (0 : Fin 1)).view.read (Elt F) f = f :=
    Memref.read_access_unit_zero (Elt F) main_v1 hz fun a => by fin_cases a <;> decide
  refine (whole _).symm.trans ?_
  rw [show cfg0.N = (pt : Fin cfg0.N).val + 1 from rfl, (dats m ρ 0 c).arrAt_succ (1 : Fin 2) pt,
    show (cfg0.win (1 : Fin 2)).flush pt = true from flush0_1 _, if_pos rfl]
  exact View.read_write_univ _ _

omit [FloatOps F] in
/-- The block of `x` that a device stages is all of its array. -/
theorem xstg_eq (c : Dev nD) : xstg m ρ c = m ((c : Thread nD τ).loc main_arg0) :=
  Memref.read_access_unit_zero (Elt F) main_arg0 (funext fun a => by fin_cases a <;> decide) (fun a => by fin_cases a <;> decide) _

omit [FloatOps F] in
/-- When the devices' blocks of `x` are those of one array, the gathered array is that array. -/
theorem gath_blocks (X : (S2048x256 : Shape).Idx → Elt F .bf16)
    (h : ∀ c : Dev nD, m ((c : Thread nD τ).loc main_arg0) = Layout.block ⟨2, ![256, 256]⟩ ⟨2, ![2048, 256]⟩ 0 8 c X) : gath m ρ = X := by
  funext i
  unfold gath
  rw [xstg_eq, h, Layout.block_apply]
  congr 1
  funext a
  apply Fin.ext
  rw [Layout.Tiles.idx_val]
  fin_cases a
  · show (i 0).val / 256 * 256 + (i 0).val % 256 = (i 0).val
    rw [Nat.mul_comm]; exact Nat.div_add_mod _ _
  · rfl

/-- The run, by arrays' names. -/
theorem run : θ_run defs (onTc (τ := τ) (main (F := F))) (s₀ m ρ)
    (fun r => (∀ c : Dev nD, r.2.mem ((c : Thread nD τ).loc main_arg0) = m ((c : Thread nD τ).loc main_arg0)
        ∧ r.2.mem ((c : Thread nD τ).loc main_v1) = gath m ρ) ∧ r.2.sem = fun _ => 0) :=
  θ_run_mono (run_arrays m ρ) (fun r h => ⟨fun c => ⟨(h.1 c (0 : Fin 2)).trans (final_x m ρ c), (h.1 c (1 : Fin 2)).trans (final_out m ρ c)⟩, h.2⟩)

end Cert.KernelIdeal.Gather

end
-- ==== Proof.Reference.lean ====
/-
The reference's run: its one device does nothing and returns its argument.
-/
module

public import proofs.«01_k».proof.Proof.Gen.ReferenceIdeal
public import Idealize.ShloMosaic.Lib.StableHlo.Run
public import Idealize.ShloMosaic.Lib.StableHlo.RunHlo
public import Idealize.ShloMosaic.Lib.Quiescent

@[expose] public section

noncomputable section

namespace Cert.ReferenceIdeal.Still

open Cert.ReferenceIdeal Cert.ReferenceIdeal.Gen
open Idealize.ShloMosaic Idealize.ShloMosaic.TcCoe Idealize.ShloMosaic.StableHlo Idealize.SL.Sem

variable {F : FTy → Type} [FloatOps F]

/-- The reference performs no operation. -/
theorem main_eq (c : Dev nD) : main (F := F) c = seq [] := rfl

/-- The reference has no scoped buffer, -/
theorem no_scopedRef : (Finset.univ.filter fun b : Ref sig .tc => b.isScoped) = ∅ := by decide
/-- and no semaphore. -/
theorem no_scopedSem : (Finset.univ.filter fun sm : SemLoc sig => sm.isScoped .tc) = ∅ := by decide

/-- Every fair run of the reference ends, its array as it was and every counter at zero. -/
theorem run (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0)) ∧ r.2.sem = fun _ => 0 :=
  θ_run_mono (run_seq no_scopedRef no_scopedSem defs main (fun _ => []) main_eq (fun _ => trivial) m ρ)
    fun r h => ⟨fun c => h c main_arg0, sem_eq_zero_of_no_sems (by decide) r.2⟩

end Cert.ReferenceIdeal.Still

end
-- ==== Proof.lean ====
/-
The claims: the kernel, the same read with ideal values, and the reference each run, keep their arguments and end with
every counter at zero; and the kernel's result is the reference's.
-/
module

public import proofs.«01_k».proof.Defs
public import proofs.«01_k».proof.Proof.Kernel.Run
public import proofs.«01_k».proof.Proof.KernelIdeal.Run
public import proofs.«01_k».proof.Proof.Reference

@[expose] public section

noncomputable section

namespace Cert.Proof

open Idealize.ShloMosaic Idealize.SL.Sem

/-- The kernel runs. -/
theorem frame_kernel : Cert.quiescent_Kernel := fun m g _ =>
  θ_run_mono (Cert.Kernel.Gather.run m g) fun _ h => ⟨fun c => (h.1 c).1, h.2⟩

/-- The kernel read with ideal values runs. -/
theorem frame_ideal : Cert.quiescent_KernelIdeal := fun m g _ =>
  θ_run_mono (Cert.KernelIdeal.Gather.run m g) fun _ h => ⟨fun c => (h.1 c).1, h.2⟩

/-- The reference runs. -/
theorem frame_reference : Cert.quiescent_ReferenceIdeal := fun m g _ => Cert.ReferenceIdeal.Still.run m g

/-- The kernel's result, on every device, is the reference's: the array whose blocks the devices hold. -/
theorem value : Cert.algebraic_KernelIdeal_ReferenceIdeal := fun m g m' g' _ hx =>
  ⟨_, θ_run_mono (Cert.KernelIdeal.Gather.run m g) fun _ h c => ⟨(h.1 c).2.trans (Cert.KernelIdeal.Gather.gath_blocks m g _ hx), (h.1 c).1⟩,
    θ_run_mono (Cert.ReferenceIdeal.Still.run m' g') fun _ h => ⟨h.1 0, h.1 0⟩⟩

theorem claim : Cert.Claim :=
  ⟨Cert.Kernel.Gen.facts, Cert.KernelIdeal.Gen.facts, Cert.ReferenceIdeal.Gen.facts, frame_kernel, frame_ideal, frame_reference, trivial, value⟩

end Cert.Proof

end
